-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_params_finite [hPre_gate_params_finite : Cert.Pre_gate_params_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_gate_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_gate_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_gate_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_gate_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_gate_params_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_params_finite [hPre_gate_params_finite : Cert.Pre_gate_params_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_gate_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_gate_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_gate_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_gate_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_gate_params_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_gate_params_finite [hKernelIdeal : Cert.KernelIdeal.Facts] [hPre_gate_params_finite : Cert.Pre_gate_params_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_params_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_gate_params_finite [hReferenceIdeal : Cert.ReferenceIdeal.Facts] [hPre_gate_params_finite : Cert.Pre_gate_params_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_params_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_gate_params_finite [hKernelIdeal : Cert.KernelIdeal.Facts] [hReferenceIdeal : Cert.ReferenceIdeal.Facts] [hPre_gate_params_finite : Cert.Pre_gate_params_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_params_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def algebraic_KernelIdeal_ReferenceIdeal_on_gate_probs_only [hKernelIdeal : Cert.KernelIdeal.Facts] [hReferenceIdeal : Cert.ReferenceIdeal.Facts] [hOn_gate_probs_only : Cert.On_gate_probs_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 8]⟩ : Shape).Idx, (Cert.On_gate_probs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.KernelIdeal.nD Cert.KernelIdeal.τ).loc Cert.KernelIdeal.main_v0_0) i = v0 c i)
          ∧ (∀ i : (⟨2, ![8192, 8]⟩ : Shape).Idx, (Cert.On_gate_probs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.KernelIdeal.nD Cert.KernelIdeal.τ).loc Cert.KernelIdeal.main_v0_1) i = v1 c i)
          ∧ (∀ i : (⟨2, ![8192, 64]⟩ : Shape).Idx, (Cert.On_gate_probs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 8]⟩ : Shape).Idx, (Cert.On_gate_probs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.ReferenceIdeal.nD Cert.ReferenceIdeal.τ).loc Cert.ReferenceIdeal.main_v90) i = v0 c i)
          ∧ (∀ i : (⟨2, ![8192, 8]⟩ : Shape).Idx, (Cert.On_gate_probs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.ReferenceIdeal.nD Cert.ReferenceIdeal.τ).loc Cert.ReferenceIdeal.main_indices) i = v1 c i)
          ∧ (∀ i : (⟨2, ![8192, 64]⟩ : Shape).Idx, (Cert.On_gate_probs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 i = 1#1 → r.2.mem ((c.tc : Thread Cert.ReferenceIdeal.nD Cert.ReferenceIdeal.τ).loc Cert.ReferenceIdeal.main_v86) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_gate_params_finite : Cert.Pre_gate_params_finite.Facts) (hOn_gate_probs_only : Cert.On_gate_probs_only.Facts),
    quiescent_Kernel (hKernel := hKernel)
    ∧ quiescent_KernelIdeal (hKernelIdeal := hKernelIdeal)
    ∧ quiescent_KernelIdeal_pre_gate_params_finite (hKernelIdeal := hKernelIdeal) (hPre_gate_params_finite := hPre_gate_params_finite)
    ∧ quiescent_ReferenceIdeal (hReferenceIdeal := hReferenceIdeal)
    ∧ quiescent_ReferenceIdeal_pre_gate_params_finite (hReferenceIdeal := hReferenceIdeal) (hPre_gate_params_finite := hPre_gate_params_finite)
    ∧ preserves_Kernel_KernelIdeal
    ∧ algebraic_KernelIdeal_ReferenceIdeal_pre_gate_params_finite (hKernelIdeal := hKernelIdeal) (hReferenceIdeal := hReferenceIdeal) (hPre_gate_params_finite := hPre_gate_params_finite)
    ∧ algebraic_KernelIdeal_ReferenceIdeal_on_gate_probs_only (hKernelIdeal := hKernelIdeal) (hReferenceIdeal := hReferenceIdeal) (hOn_gate_probs_only := hOn_gate_probs_only)
-- ==== On_gate_probs_only.lean ====
abbrev S8192x4096 : Shape := ⟨2, ![8192, 4096]⟩
abbrev S256x4096 : Shape := ⟨2, ![256, 4096]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1 : Shape := ⟨1, ![1]⟩
abbrev S_ : Shape := ⟨0, ![]⟩
abbrev S8192x8 : Shape := ⟨2, ![8192, 8]⟩
abbrev S8192x64 : Shape := ⟨2, ![8192, 64]⟩

class Facts : Prop where
  bcast_S_S8192x8 : S_.BroadcastsInDim S8192x8 (![] : Fin 0 → Fin S8192x8.rank)
  bcast_S_S8192x64 : S_.BroadcastsInDim S8192x64 (![] : Fin 0 → Fin S8192x64.rank)

variable [Facts]

def fn {F : FTy → Type} [FloatOps F] (main_arg0 : FVec F S8192x4096 .f32) (main_arg1 : FVec F S256x4096 .f32) (main_arg2 : FVec F S256 .f32) (main_arg3 : FVec F S256 .f32) (main_arg4 : FVec F S256 .f32) (main_arg5 : FVec F S256x256 .f32) (main_arg6 : FVec F S256 .f32) (main_arg7 : FVec F S256 .f32) (main_arg8 : FVec F S256 .f32) (main_arg9 : FVec F S128x256 .f32) (main_arg10 : FVec F S128 .f32) (main_arg11 : FVec F S64x128 .f32) (main_arg12 : FVec F S64 .f32) (main_arg13 : FVec F S1 .f32) : IVec S8192x8 1 × IVec S8192x8 1 × IVec S8192x64 1 :=
  let main_c : IVec S_ 1 := constantI S_ 1 0#1
  let main_v0 : IVec S8192x8 1 := broadcastInDim S8192x8 ![] bcast_S_S8192x8 main_c
  let main_c_0 : IVec S_ 1 := constantI S_ 1 1#1
  let main_v1 : IVec S8192x64 1 := broadcastInDim S8192x64 ![] bcast_S_S8192x64 main_c_0
  (main_v0, main_v0, main_v1)
-- ==== Pre_gate_params_finite.lean ====
abbrev S8192x4096 : Shape := ⟨2, ![8192, 4096]⟩
abbrev S256x4096 : Shape := ⟨2, ![256, 4096]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1 : Shape := ⟨1, ![1]⟩
abbrev S_ : Shape := ⟨0, ![]⟩

class Facts : Prop where
  bcast_S_S256 : S_.BroadcastsInDim S256 (![] : Fin 0 → Fin S256.rank)
  bcast_S_S128x256 : S_.BroadcastsInDim S128x256 (![] : Fin 0 → Fin S128x256.rank)
  bcast_S_S128 : S_.BroadcastsInDim S128 (![] : Fin 0 → Fin S128.rank)
  bcast_S_S64x128 : S_.BroadcastsInDim S64x128 (![] : Fin 0 → Fin S64x128.rank)
  bcast_S_S64 : S_.BroadcastsInDim S64 (![] : Fin 0 → Fin S64.rank)

variable [Facts]

def fn {F : FTy → Type} [FloatOps F] (main_arg0 : FVec F S8192x4096 .f32) (main_arg1 : FVec F S256x4096 .f32) (main_arg2 : FVec F S256 .f32) (main_arg3 : FVec F S256 .f32) (main_arg4 : FVec F S256 .f32) (main_arg5 : FVec F S256x256 .f32) (main_arg6 : FVec F S256 .f32) (main_arg7 : FVec F S256 .f32) (main_arg8 : FVec F S256 .f32) (main_arg9 : FVec F S128x256 .f32) (main_arg10 : FVec F S128 .f32) (main_arg11 : FVec F S64x128 .f32) (main_arg12 : FVec F S64 .f32) (main_arg13 : FVec F S1 .f32) : IVec S256 1 × IVec S256 1 × IVec S128x256 1 × IVec S128 1 × IVec S64x128 1 × IVec S64 1 :=
  let main_v0 : FVec F S256 .f32 := Host.absf main_arg7
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256 .f32 := Host.absf main_arg8
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S128x256 .f32 := Host.absf main_arg9
  let main_cst_1 : FVec F S_ .f32 := constant S_ .f32 0x7F800000#32
  let main_v7 : FVec F S128x256 .f32 := broadcastInDim S128x256 ![] bcast_S_S128x256 main_cst_1
  let main_v8 : IVec S128x256 1 := cmpf .olt main_v6 main_v7
  let main_v9 : FVec F S128 .f32 := Host.absf main_arg10
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S64x128 .f32 := Host.absf main_arg11
  let main_cst_3 : FVec F S_ .f32 := constant S_ .f32 0x7F800000#32
  let main_v13 : FVec F S64x128 .f32 := broadcastInDim S64x128 ![] bcast_S_S64x128 main_cst_3
  let main_v14 : IVec S64x128 1 := cmpf .olt main_v12 main_v13
  let main_v15 : FVec F S64 .f32 := Host.absf main_arg12
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  (main_v2, main_v5, main_v8, main_v11, main_v14, main_v17)
-- ==== Kernel.lean ====
abbrev S8192x4096 : Shape := ⟨2, ![8192, 4096]⟩
abbrev S256x4096 : Shape := ⟨2, ![256, 4096]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1 : Shape := ⟨1, ![1]⟩
abbrev S1x256 : Shape := ⟨2, ![1, 256]⟩
abbrev S1x128 : Shape := ⟨2, ![1, 128]⟩
abbrev S1x64 : Shape := ⟨2, ![1, 64]⟩
abbrev S1x1 : Shape := ⟨2, ![1, 1]⟩
abbrev S8192x8 : Shape := ⟨2, ![8192, 8]⟩
abbrev S8192x64 : Shape := ⟨2, ![8192, 64]⟩
abbrev S1024x4096 : Shape := ⟨2, ![1024, 4096]⟩
abbrev S1024x8 : Shape := ⟨2, ![1024, 8]⟩
abbrev S1024x64 : Shape := ⟨2, ![1024, 64]⟩
abbrev S1024x256 : Shape := ⟨2, ![1024, 256]⟩
abbrev S1024 : Shape := ⟨1, ![1024]⟩
abbrev S1024x1 : Shape := ⟨2, ![1024, 1]⟩
abbrev S1024x128 : Shape := ⟨2, ![1024, 128]⟩
abbrev S64x1024 : Shape := ⟨2, ![64, 1024]⟩
abbrev S1x1024 : Shape := ⟨2, ![1, 1024]⟩
abbrev S8x1024 : Shape := ⟨2, ![8, 1024]⟩

abbrev nBuf : Space → Nat
  | .hbm => 26
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S128x256, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S1, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x128, .f32⟩
  | .hbm, ⟨21, _⟩ => ⟨S1x64, .f32⟩
  | .hbm, ⟨22, _⟩ => ⟨S1x1, .f32⟩
  | .hbm, ⟨23, _⟩ => ⟨S8192x8, .f32⟩
  | .hbm, ⟨24, _⟩ => ⟨S8192x8, .i32⟩
  | .hbm, ⟨25, _⟩ => ⟨S8192x64, .f32⟩
  | .local _ .vmem, ⟨0, _⟩ => ⟨S1024x4096, .f32⟩
  | .local _ .vmem, ⟨1, _⟩ => ⟨S1024x4096, .f32⟩
  | .local _ .vmem, ⟨2, _⟩ => ⟨S256x4096, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S128x256, .f32⟩
  | .local _ .vmem, ⟨11, _⟩ => ⟨S1x128, .f32⟩
  | .local _ .vmem, ⟨12, _⟩ => ⟨S64x128, .f32⟩
  | .local _ .vmem, ⟨13, _⟩ => ⟨S1x64, .f32⟩
  | .local _ .vmem, ⟨14, _⟩ => ⟨S1x1, .f32⟩
  | .local _ .vmem, ⟨15, _⟩ => ⟨S1024x8, .f32⟩
  | .local _ .vmem, ⟨16, _⟩ => ⟨S1024x8, .f32⟩
  | .local _ .vmem, ⟨17, _⟩ => ⟨S1024x8, .i32⟩
  | .local _ .vmem, ⟨18, _⟩ => ⟨S1024x8, .i32⟩
  | .local _ .vmem, ⟨19, _⟩ => ⟨S1024x64, .f32⟩
  | .local _ .vmem, ⟨20, _⟩ => ⟨S1024x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x8 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8192x4096 : Shape := ⟨2, ![8192, 4096]⟩
abbrev S256x4096 : Shape := ⟨2, ![256, 4096]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1 : Shape := ⟨1, ![1]⟩
abbrev S4096x256 : Shape := ⟨2, ![4096, 256]⟩
abbrev S8192x256 : Shape := ⟨2, ![8192, 256]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S256x128 : Shape := ⟨2, ![256, 128]⟩
abbrev S8192x128 : Shape := ⟨2, ![8192, 128]⟩
abbrev S1x128 : Shape := ⟨2, ![1, 128]⟩
abbrev S128x64 : Shape := ⟨2, ![128, 64]⟩
abbrev S8192x64 : Shape := ⟨2, ![8192, 64]⟩
abbrev S1x64 : Shape := ⟨2, ![1, 64]⟩
abbrev S1x1 : Shape := ⟨2, ![1, 1]⟩
abbrev S8192x8 : Shape := ⟨2, ![8192, 8]⟩

abbrev nBuf : Space → Nat
  | .hbm => 134
  | .vmem => 0
  | .smem => 0
  | _ => 0

abbrev hbmTy0_0 (i : Nat) : BufTy := match i % 128 with
  | 0 => ⟨S8192x4096, .f32⟩
  | 1 => ⟨S256x4096, .f32⟩
  | 2 => ⟨S256, .f32⟩
  | 3 => ⟨S256, .f32⟩
  | 4 => ⟨S256, .f32⟩
  | 5 => ⟨S256x256, .f32⟩
  | 6 => ⟨S256, .f32⟩
  | 7 => ⟨S256, .f32⟩
  | 8 => ⟨S256, .f32⟩
  | 9 => ⟨S128x256, .f32⟩
  | 10 => ⟨S128, .f32⟩
  | 11 => ⟨S64x128, .f32⟩
  | 12 => ⟨S64, .f32⟩
  | 13 => ⟨S1, .f32⟩
  | 14 => ⟨S4096x256, .f32⟩
  | 15 => ⟨S8192x256, .f32⟩
  | 16 => ⟨S1x256, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x256, .f32⟩
  | 29 => ⟨S8192x256, .f32⟩
  | 30 => ⟨S8192x256, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x256, .f32⟩
  | 38 => ⟨S8192x256, .f32⟩
  | 39 => ⟨S_, .f32⟩
  | 40 => ⟨S8192x1, .f32⟩
  | 41 => ⟨S8192x1, .f32⟩
  | 42 => ⟨S8192x1, .f32⟩
  | 43 => ⟨S8192x256, .f32⟩
  | 44 => ⟨S8192x256, .f32⟩
  | 45 => ⟨S1x256, .f32⟩
  | 46 => ⟨S8192x256, .f32⟩
  | 47 => ⟨S8192x256, .f32⟩
  | 48 => ⟨S1x256, .f32⟩
  | 49 => ⟨S8192x256, .f32⟩
  | 50 => ⟨S8192x256, .f32⟩
  | 51 => ⟨S_, .f32⟩
  | 52 => ⟨S8192x256, .f32⟩
  | 53 => ⟨S8192x256, .f32⟩
  | 54 => ⟨S256x256, .f32⟩
  | 55 => ⟨S8192x256, .f32⟩
  | 56 => ⟨S1x256, .f32⟩
  | 57 => ⟨S8192x256, .f32⟩
  | 58 => ⟨S8192x256, .f32⟩
  | 59 => ⟨S8192x256, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x256, .f32⟩
  | 67 => ⟨S8192x256, .f32⟩
  | 68 => ⟨S8192x256, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S8192x256, .f32⟩
  | 76 => ⟨S8192x256, .f32⟩
  | 77 => ⟨S_, .f32⟩
  | 78 => ⟨S8192x1, .f32⟩
  | 79 => ⟨S8192x1, .f32⟩
  | 80 => ⟨S8192x1, .f32⟩
  | 81 => ⟨S8192x256, .f32⟩
  | 82 => ⟨S8192x256, .f32⟩
  | 83 => ⟨S1x256, .f32⟩
  | 84 => ⟨S8192x256, .f32⟩
  | 85 => ⟨S8192x256, .f32⟩
  | 86 => ⟨S1x256, .f32⟩
  | 87 => ⟨S8192x256, .f32⟩
  | 88 => ⟨S8192x256, .f32⟩
  | 89 => ⟨S_, .f32⟩
  | 90 => ⟨S8192x256, .f32⟩
  | 91 => ⟨S8192x256, .f32⟩
  | 92 => ⟨S256x128, .f32⟩
  | 93 => ⟨S8192x128, .f32⟩
  | 94 => ⟨S1x128, .f32⟩
  | 95 => ⟨S8192x128, .f32⟩
  | 96 => ⟨S8192x128, .f32⟩
  | 97 => ⟨S128x64, .f32⟩
  | 98 => ⟨S8192x64, .f32⟩
  | 99 => ⟨S1x64, .f32⟩
  | 100 => ⟨S8192x64, .f32⟩
  | 101 => ⟨S8192x64, .f32⟩
  | 102 => ⟨S_, .f32⟩
  | 103 => ⟨S_, .f32⟩
  | 104 => ⟨S_, .f32⟩
  | 105 => ⟨S1, .f32⟩
  | 106 => ⟨S1, .f32⟩
  | 107 => ⟨S_, .f32⟩
  | 108 => ⟨S1, .f32⟩
  | 109 => ⟨S1, .f32⟩
  | 110 => ⟨S1x1, .f32⟩
  | 111 => ⟨S8192x64, .f32⟩
  | 112 => ⟨S8192x64, .f32⟩
  | 113 => ⟨S_, .f32⟩
  | 114 => ⟨S8192, .f32⟩
  | 115 => ⟨S_, .f32⟩
  | 116 => ⟨S8192, .f32⟩
  | 117 => ⟨S8192, .f32⟩
  | 118 => ⟨S8192x1, .f32⟩
  | 119 => ⟨S8192x64, .f32⟩
  | 120 => ⟨S8192x64, .f32⟩
  | 121 => ⟨S8192x64, .f32⟩
  | 122 => ⟨S_, .f32⟩
  | 123 => ⟨S8192, .f32⟩
  | 124 => ⟨S8192x1, .f32⟩
  | 125 => ⟨S8192x64, .f32⟩
  | 126 => ⟨S8192x64, .f32⟩
  | 127 => ⟨S8192x8, .f32⟩
  | _ => ⟨S8192x4096, .f32⟩

abbrev hbmTy0_1 (i : Nat) : BufTy := match i % 128 with
  | 0 => ⟨S8192x8, .i32⟩
  | 1 => ⟨S_, .f32⟩
  | 2 => ⟨S8192, .f32⟩
  | 3 => ⟨S8192x1, .f32⟩
  | 4 => ⟨S8192x8, .f32⟩
  | 5 => ⟨S8192x8, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call2_cst : Ref sig .tc := ⟨.hbm, 89, rfl⟩
abbrev main_call2_v0 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_cst_10 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_11 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_13 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_values : Ref sig .tc := ⟨.hbm, 127, rfl⟩
abbrev main_indices : Ref sig .tc := ⟨.hbm, 128, rfl⟩
abbrev main_cst_14 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩

abbrev nD : Nat := 1
abbrev τ : Topo := Topo.v7x

variable {F : FTy → Type} [FloatOps F]
-- ==== Proof.Rows.lean ====
module

public import Idealize.ShloMosaic.PureOps.Ideal.Laws

/-!
# One token's gate, over the extended reals

The hidden layers, the two layer normalisations and the softmax of one token's row, written once with the
normalisation as a parameter: the kernel multiplies by the reciprocal square root, the reference divides by the
square root.  The two normalisations are equal at every extended real, and a normalised value is always a real
number, so with finite parameters after it every softmax quotient is a positive real number.
-/

@[expose] public section

noncomputable section

namespace Cert.Gate

open Idealize.ShloMosaic

variable {n k : Nat}

/-- A dense layer on one row: the products with row `j` of the weights summed, plus the bias. -/
def linear (x : Fin k → EReal) (W : Fin n → Fin k → EReal) (b : Fin n → EReal) (j : Fin n) : EReal :=
  (∑ i, x i * W j i) + b j

/-- The mean of 256 values. -/
def mean (h : Fin 256 → EReal) : EReal := Ideal.div (∑ j, h j) (Ideal.ofBits .f32 0x43800000#32)

/-- The variance of 256 values. -/
def var (h : Fin 256 → EReal) : EReal :=
  Ideal.div (∑ j, (h j - mean h) * (h j - mean h)) (Ideal.ofBits .f32 0x43800000#32)

/-- The variance with the stabilising constant added. -/
def spread (h : Fin 256 → EReal) : EReal := var h + Ideal.ofBits .f32 0x3727C5AC#32

/-- The kernel's normalisation: times the reciprocal square root. -/
def normMul (h : Fin 256 → EReal) (j : Fin 256) : EReal := (h j - mean h) * Ideal.rsqrt (spread h)

/-- The reference's normalisation: divided by the square root. -/
def normDiv (h : Fin 256 → EReal) (j : Fin 256) : EReal := Ideal.div (h j - mean h) (Ideal.sqrt (spread h))

/-- A normalised row scaled and shifted, then rectified. -/
def act (norm : (Fin 256 → EReal) → Fin 256 → EReal) (h g b : Fin 256 → EReal) (j : Fin 256) : EReal :=
  max (norm h j * g j + b j) 0

/-- The first hidden row. -/
def hidden (x : Fin k → EReal) (W : Fin 256 → Fin k → EReal) (b : Fin 256 → EReal) (j : Fin 256) : EReal :=
  max (linear x W b j) 0

/-- The second hidden row: the residual block added to the first. -/
def residual (norm : (Fin 256 → EReal) → Fin 256 → EReal) (h g b : Fin 256 → EReal)
    (W : Fin 256 → Fin 256 → EReal) (c : Fin 256 → EReal) (j : Fin 256) : EReal :=
  linear (act norm h g b) W c j + h j

/-- The temperature clipped into the interval from one half to five. -/
def temper (T : EReal) : EReal := min (Ideal.ofBits .f32 0x40A00000#32) (max (Ideal.ofBits .f32 0x3F000000#32) T)

/-- The greatest of a row's values (with `-∞`). -/
def top (l : Fin n → EReal) : EReal := Finset.univ.fold max (Ideal.ofBits .f32 0xFF800000#32) l

/-- The softmax of a row, the row's greatest value taken off first. -/
def softmax (l : Fin n → EReal) (j : Fin n) : EReal :=
  Ideal.div (Ideal.exp (l j - top l)) (∑ i, Ideal.exp (l i - top l))

/-- The logits of one row. -/
def logits (norm : (Fin 256 → EReal) → Fin 256 → EReal) (h g b : Fin 256 → EReal)
    (W : Fin 128 → Fin 256 → EReal) (c : Fin 128 → EReal) (V : Fin n → Fin 128 → EReal) (d : Fin n → EReal)
    (T : EReal) (j : Fin n) : EReal :=
  Ideal.div (linear (linear (act norm h g b) W c) V d j) (temper T)

/-! ## The constants -/

/-- The width constant is 256. -/
theorem width_val : Ideal.ofBits .f32 0x43800000#32 = ((256 : ℝ) : EReal) := by
  simp [Ideal.ofBits, Ideal.ieee, -EReal.coe_mul, -EReal.coe_neg]; norm_num

/-- The stabilising constant is a positive real. -/
theorem eps_val : ∃ e : ℝ, 0 < e ∧ Ideal.ofBits .f32 0x3727C5AC#32 = (e : EReal) := by
  refine ⟨_, ?_, by simp [Ideal.ofBits, Ideal.ieee]; rfl⟩
  norm_num

/-- The lower clip bound is one half. -/
theorem half_val : Ideal.ofBits .f32 0x3F000000#32 = ((1 / 2 : ℝ) : EReal) := by
  simp [Ideal.ofBits, Ideal.ieee, -EReal.coe_mul, -EReal.coe_neg]; norm_num

/-- The upper clip bound is five. -/
theorem five_val : Ideal.ofBits .f32 0x40A00000#32 = ((5 : ℝ) : EReal) := by
  simp [Ideal.ofBits, Ideal.ieee, -EReal.coe_mul, -EReal.coe_neg]; norm_num

/-- The mask value is minus one. -/
theorem minus_one_val : Ideal.ofBits .f32 0xBF800000#32 = ((-1 : ℝ) : EReal) := by
  simp [Ideal.ofBits, Ideal.ieee, -EReal.coe_mul, -EReal.coe_neg]; norm_num

/-- The start of a maximum is minus infinity. -/
theorem neg_inf_val : Ideal.ofBits .f32 0xFF800000#32 = ⊥ := by
  simp [Ideal.ofBits, Ideal.ieee]

/-- The bound of the finiteness test is plus infinity. -/
theorem pos_inf_val : Ideal.ofBits .f32 0x7F800000#32 = ⊤ := by
  simp [Ideal.ofBits, Ideal.ieee]

/-! ## The normalisations -/

/-- A square is not negative. -/
theorem sq_nonneg (d : EReal) : 0 ≤ d * d := by
  induction d with
  | bot => simp
  | top => simp
  | coe r => exact_mod_cast mul_self_nonneg r

/-- The variance is not negative. -/
theorem var_nonneg (h : Fin 256 → EReal) : 0 ≤ var h := by
  rw [var, width_val, Ideal.div_coe (by norm_num)]
  exact mul_nonneg (Finset.sum_nonneg fun j _ => sq_nonneg _) (by norm_num)

/-- The stabilised variance is positive. -/
theorem spread_pos (h : Fin 256 → EReal) : 0 < spread h := by
  obtain ⟨e, he, hv⟩ := eps_val
  rw [spread, hv]
  exact lt_of_lt_of_le (by exact_mod_cast he) (le_add_of_nonneg_left (var_nonneg h))

/-- Dividing by the square root of a positive value is multiplying by its reciprocal square root. -/
theorem div_sqrt {v : EReal} (hv : 0 < v) (x : EReal) : Ideal.div x (Ideal.sqrt v) = x * Ideal.rsqrt v := by
  induction v with
  | bot => simp at hv
  | top => simp [Ideal.div]
  | coe r =>
    have hr : 0 < r := by exact_mod_cast hv
    have hs : Real.sqrt r ≠ 0 := (Real.sqrt_pos.mpr hr).ne'
    rw [Ideal.sqrt_coe, Ideal.rsqrt_coe, if_neg hr.not_gt, if_neg hr.not_gt, if_neg hr.ne', Ideal.div_coe hs, one_div]

/-- The two normalisations agree at every extended real. -/
theorem normMul_eq : normMul = normDiv := by
  funext h j
  rw [normMul, normDiv, div_sqrt (spread_pos h)]

/-- Being a real number. -/
def IsReal (x : EReal) : Prop := ∃ r : ℝ, x = r

/-- Sums of two reals are real. -/
theorem IsReal.add {x y : EReal} (hx : IsReal x) (hy : IsReal y) : IsReal (x + y) := by
  obtain ⟨a, rfl⟩ := hx; obtain ⟨b, rfl⟩ := hy; exact ⟨a + b, by norm_cast⟩

/-- Products of two reals are real. -/
theorem IsReal.mul {x y : EReal} (hx : IsReal x) (hy : IsReal y) : IsReal (x * y) := by
  obtain ⟨a, rfl⟩ := hx; obtain ⟨b, rfl⟩ := hy; exact ⟨a * b, by norm_cast⟩

/-- Differences of two reals are real. -/
theorem IsReal.sub {x y : EReal} (hx : IsReal x) (hy : IsReal y) : IsReal (x - y) := by
  obtain ⟨a, rfl⟩ := hx; obtain ⟨b, rfl⟩ := hy; exact ⟨a - b, by norm_cast⟩

/-- Zero is real. -/
theorem IsReal.zero : IsReal 0 := ⟨0, by norm_cast⟩

/-- The greater of two reals is real. -/
theorem IsReal.max {x y : EReal} (hx : IsReal x) (hy : IsReal y) : IsReal (max x y) := by
  rcases max_choice x y with h | h <;> rw [h] <;> assumption

/-- A finite sum of reals is real. -/
theorem IsReal.sum {ι : Type} {s : Finset ι} {f : ι → EReal} (hf : ∀ i, IsReal (f i)) : IsReal (∑ i ∈ s, f i) := by
  classical
  induction s using Finset.induction_on with
  | empty => simpa using IsReal.zero
  | insert a s ha ih => rw [Finset.sum_insert ha]; exact (hf a).add ih

/-- A value between the infinities is real. -/
theorem IsReal.of_ne {x : EReal} (hb : x ≠ ⊥) (ht : x ≠ ⊤) : IsReal x :=
  ⟨x.toReal, (EReal.coe_toReal ht hb).symm⟩

/-- A normalised value is always real: an infinite entry makes the variance infinite, whose reciprocal root is zero. -/
theorem normMul_real (h : Fin 256 → EReal) (j : Fin 256) : IsReal (normMul h j) := by
  obtain ⟨e, he, hv⟩ := eps_val
  have hp := spread_pos h
  by_cases ht : spread h = ⊤
  · rw [normMul, ht, Ideal.rsqrt_top, mul_zero]; exact IsReal.zero
  · obtain ⟨s, hs⟩ := IsReal.of_ne (ne_bot_of_gt hp) ht
    have hs0 : 0 < s := by rw [hs] at hp; exact_mod_cast hp
    have hvar : var h ≠ ⊤ := by
      intro hc; apply ht; rw [spread, hc, hv]; rfl
    have hsum : (∑ i, (h i - mean h) * (h i - mean h)) ≠ ⊤ := by
      intro hc; apply hvar
      rw [var, width_val, Ideal.div_coe (by norm_num), hc]
      exact EReal.top_mul_coe_of_pos (by norm_num)
    have hd : (h j - mean h) * (h j - mean h) ≠ ⊤ := by
      intro hc; apply hsum
      refine top_le_iff.mp (hc ▸ ?_)
      exact Finset.single_le_sum (f := fun i => (h i - mean h) * (h i - mean h)) (fun i _ => sq_nonneg _)
        (Finset.mem_univ j)
    have hr : IsReal (h j - mean h) := by
      refine IsReal.of_ne ?_ ?_ <;> intro hc <;> apply hd <;> rw [hc] <;> simp
    refine hr.mul ?_
    rw [hs, Ideal.rsqrt_coe, if_neg hs0.not_gt, if_neg hs0.ne']
    exact ⟨_, rfl⟩

/-- With real weights and a real bias, a dense layer takes real rows to real rows. -/
theorem linear_real {x : Fin k → EReal} {W : Fin n → Fin k → EReal} {b : Fin n → EReal} (hx : ∀ i, IsReal (x i))
    (hW : ∀ j i, IsReal (W j i)) (hb : ∀ j, IsReal (b j)) (j : Fin n) : IsReal (linear x W b j) :=
  (IsReal.sum fun i => (hx i).mul (hW j i)).add (hb j)

/-- With a real scale and shift, the activation is real whatever its input. -/
theorem act_real (h : Fin 256 → EReal) {g b : Fin 256 → EReal} (hg : ∀ j, IsReal (g j)) (hb : ∀ j, IsReal (b j))
    (j : Fin 256) : IsReal (act normMul h g b j) :=
  (((normMul_real h j).mul (hg j)).add (hb j)).max IsReal.zero

/-- The clipped temperature is a nonzero real. -/
theorem temper_real (T : EReal) : ∃ t : ℝ, t ≠ 0 ∧ temper T = t := by
  rw [temper, half_val, five_val]
  have h1 : (((1 / 2 : ℝ)) : EReal) ≤ min ((5 : ℝ) : EReal) (max ((1 / 2 : ℝ) : EReal) T) :=
    le_min (by exact_mod_cast (by norm_num : (1 / 2 : ℝ) ≤ 5)) (le_max_left _ _)
  have h2 : min ((5 : ℝ) : EReal) (max ((1 / 2 : ℝ) : EReal) T) ≤ ((5 : ℝ) : EReal) := min_le_left _ _
  obtain ⟨t, ht⟩ := IsReal.of_ne (x := min ((5 : ℝ) : EReal) (max ((1 / 2 : ℝ) : EReal) T))
    (fun hc => by rw [hc] at h1; exact absurd h1 (not_le.mpr (EReal.bot_lt_coe _)))
    (fun hc => by rw [hc] at h2; exact absurd h2 (not_le.mpr (EReal.coe_lt_top _)))
  refine ⟨t, ?_, ht⟩
  rw [ht] at h1
  have : (1 / 2 : ℝ) ≤ t := by exact_mod_cast h1
  linarith

/-- The logits are real when the parameters after the second normalisation are. -/
theorem logits_real (h : Fin 256 → EReal) {g b : Fin 256 → EReal} {W : Fin 128 → Fin 256 → EReal}
    {c : Fin 128 → EReal} {V : Fin n → Fin 128 → EReal} {d : Fin n → EReal} (T : EReal) (hg : ∀ j, IsReal (g j))
    (hb : ∀ j, IsReal (b j)) (hW : ∀ j i, IsReal (W j i)) (hc : ∀ j, IsReal (c j)) (hV : ∀ j i, IsReal (V j i))
    (hd : ∀ j, IsReal (d j)) (j : Fin n) : IsReal (logits normMul h g b W c V d T j) := by
  obtain ⟨t, ht, hT⟩ := temper_real T
  rw [logits, hT, Ideal.div_coe ht]
  exact (linear_real (linear_real (act_real h hg hb) hW hc) hV hd j).mul ⟨_, rfl⟩

/-- The greatest value of a nonempty row of reals is real. -/
theorem top_real [NeZero n] {l : Fin n → EReal} (hl : ∀ j, IsReal (l j)) : IsReal (top l) := by
  rw [top, neg_inf_val]
  refine IsReal.of_ne (fun hc => ?_) (fun hc => ?_)
  · have h0 : l 0 ≤ Finset.univ.fold max ⊥ l := Finset.le_fold_max (l 0) |>.mpr (Or.inr ⟨0, Finset.mem_univ _, le_rfl⟩)
    rw [hc, le_bot_iff] at h0
    obtain ⟨r, hr⟩ := hl 0
    rw [hr] at h0; exact EReal.coe_ne_bot r h0
  · have : Finset.univ.fold max ⊥ l < ⊤ := Finset.fold_max_lt ⊤ |>.mpr ⟨bot_lt_top, fun j _ => by
      obtain ⟨r, hr⟩ := hl j; rw [hr]; exact EReal.coe_lt_top r⟩
    exact absurd hc this.ne

/-- The softmax of real logits is positive. -/
theorem softmax_pos [NeZero n] {l : Fin n → EReal} (hl : ∀ j, IsReal (l j)) (j : Fin n) : 0 < softmax l j := by
  choose r hr using hl
  obtain ⟨m, hm⟩ := top_real (l := l) fun j => ⟨r j, hr j⟩
  have he : ∀ i, Ideal.exp (l i - top l) = ((Real.exp (r i - m) : ℝ) : EReal) := fun i => by
    rw [hr i, hm, ← EReal.coe_sub, Ideal.exp_coe]
  have hs : (∑ i, Ideal.exp (l i - top l)) = ((∑ i, Real.exp (r i - m) : ℝ) : EReal) := by
    rw [Finset.sum_congr rfl fun i _ => he i]
    exact (map_sum (⟨⟨((↑) : ℝ → EReal), EReal.coe_zero⟩, EReal.coe_add⟩ : ℝ →+ EReal) _ _).symm
  have hp : (0 : ℝ) < ∑ i, Real.exp (r i - m) := Finset.sum_pos (fun i _ => Real.exp_pos _) ⟨0, Finset.mem_univ _⟩
  rw [softmax, he, hs, Ideal.div_coe hp.ne', ← EReal.coe_mul]
  exact_mod_cast mul_pos (Real.exp_pos _) (one_div_pos.mpr hp)

end Cert.Gate
-- ==== Proof.TopK.lean ====
module

public import proofs.«01_k».proof.Proof.Rows
public import Idealize.ShloMosaic.Lib.SortPrefix
public import Idealize.ShloMosaic.Lib.SortFacts

/-!
# Eight rounds of "take the greatest, mask it" against a stable descending sort

The kernel finds the eight greatest probabilities of a row one after the other: the greatest value, the least
position holding it, then that position overwritten by minus one.  With every value above minus one the eight
positions are the first eight of a stable descending sort.
-/

@[expose] public section

noncomputable section

namespace Cert.Gate

open Idealize.ShloMosaic

/-- The position word a round chooses: the least position (among 64, as a signed word) holding the greatest value. -/
def word (v : Fin 64 → EReal) : BitVec 32 :=
  Finset.fold IntOp.minsi 2147483647#32 (fun x : Fin 64 => if top v ≤ v x then BitVec.ofNat 32 x.val else 64#32)
    Finset.univ

/-- The row after a round: the chosen position overwritten by minus one. -/
def masked (v : Fin 64 → EReal) (i : Fin 64) : EReal :=
  Scalar.select (IntOp.cmpi .eq (BitVec.ofNat 32 i.val) (word v)) (Ideal.ofBits .f32 0xBF800000#32) (v i)

/-- The row before round `r`. -/
def state (p : Fin 64 → EReal) : Nat → Fin 64 → EReal
  | 0 => p
  | r + 1 => masked (state p r)

/-- The greatest value of a row is attained. -/
theorem top_attained (v : Fin 64 → EReal) : (∃ i, v i = top v) ∧ ∀ j, v j ≤ top v := by
  have hle : ∀ j, v j ≤ top v := fun j => by
    rw [top]; exact Finset.le_fold_max (v j) |>.mpr (Or.inr ⟨j, Finset.mem_univ _, le_rfl⟩)
  refine ⟨?_, hle⟩
  obtain ⟨i, -, hi⟩ := Finset.exists_max_image Finset.univ v ⟨0, Finset.mem_univ _⟩
  refine ⟨i, le_antisymm (hle i) ?_⟩
  rw [top, neg_inf_val]
  exact Finset.fold_max_le (v i) |>.mpr ⟨bot_le, fun j _ => hi j (Finset.mem_univ _)⟩

/-- There is a least position holding the greatest value. -/
theorem first_exists (v : Fin 64 → EReal) : ∃ i, v i = top v ∧ ∀ j, j < i → v j < top v := by
  classical
  obtain ⟨⟨i₀, h₀⟩, hle⟩ := top_attained v
  have hne : (Finset.univ.filter fun i => v i = top v).Nonempty := ⟨i₀, by simp [h₀]⟩
  refine ⟨(Finset.univ.filter fun i => v i = top v).min' hne, ?_, fun j hj => ?_⟩
  · exact (Finset.mem_filter.mp (Finset.min'_mem _ hne)).2
  · refine lt_of_le_of_ne (hle j) fun hc => ?_
    exact absurd (Finset.min'_le _ j (Finset.mem_filter.mpr ⟨Finset.mem_univ _, hc⟩)) (not_le.mpr hj)

/-- The least position holding the greatest value. -/
def pick (v : Fin 64 → EReal) : Fin 64 := Classical.choose (first_exists v)

/-- The picked position holds the greatest value. -/
theorem pick_top (v : Fin 64 → EReal) : v (pick v) = top v := (Classical.choose_spec (first_exists v)).1

/-- Every position before the picked one holds less. -/
theorem lt_pick (v : Fin 64 → EReal) {j : Fin 64} (h : j < pick v) : v j < top v :=
  (Classical.choose_spec (first_exists v)).2 j h

/-- A signed minimum's value is the minimum of the values. -/
theorem toInt_minsi (x y : BitVec 32) : (IntOp.minsi x y).toInt = min x.toInt y.toInt := by
  rw [IntOp.minsi, BitVec.slt]
  by_cases h : x.toInt < y.toInt
  · simp [h, min_eq_left h.le]
  · simp [h, min_eq_right (not_lt.mp h)]

/-- A small position's word has the position as its value. -/
theorem toInt_small (i : Fin 64) : (BitVec.ofNat 32 i.val).toInt = (i.val : Int) := by
  revert i; decide

/-- The chosen word is the picked position's. -/
theorem word_eq (v : Fin 64 → EReal) : word v = BitVec.ofNat 32 (pick v).val := by
  apply BitVec.eq_of_toInt_eq
  rw [toInt_small, word,
    ← Finset.fold_hom (op := IntOp.minsi) (op' := min) (m := fun b : BitVec 32 => b.toInt) toInt_minsi]
  apply le_antisymm
  · refine Finset.fold_min_le _ |>.mpr (Or.inr ⟨pick v, Finset.mem_univ _, ?_⟩)
    rw [if_pos (pick_top v).ge, toInt_small]
  · refine Finset.le_fold_min _ |>.mpr ⟨?_, fun j _ => ?_⟩
    · have := (pick v).isLt
      have h2 : (2147483647#32 : BitVec 32).toInt = 2147483647 := by decide
      rw [h2]; omega
    · have := (pick v).isLt
      split
      · rename_i h
        rw [toInt_small]
        have : ¬ j < pick v := fun hc => absurd h (not_le.mpr (lt_pick v hc))
        have := Fin.le_def.mp (not_lt.mp this)
        omega
      · have h2 : (64#32 : BitVec 32).toInt = 64 := by decide
        rw [h2]; omega

/-- Two positions have one word only when they are one position. -/
theorem ofNat_inj {i j : Fin 64} (h : BitVec.ofNat 32 i.val = BitVec.ofNat 32 j.val) : i = j := by
  have := congrArg BitVec.toInt h
  rw [toInt_small, toInt_small] at this
  exact Fin.ext (by omega)

/-- A round overwrites the picked position and nothing else. -/
theorem masked_eq (v : Fin 64 → EReal) (i : Fin 64) :
    masked v i = if i = pick v then Ideal.ofBits .f32 0xBF800000#32 else v i := by
  rw [masked, word_eq, Scalar.select]
  by_cases h : i = pick v
  · rw [if_pos h, if_pos]
    simp [IntOp.cmpi, h]
  · rw [if_neg h, if_neg]
    have : BitVec.ofNat 32 i.val ≠ BitVec.ofNat 32 (pick v).val := fun hc => h (ofNat_inj hc)
    change ¬BitVec.ofBool (BitVec.ofNat 32 i.val == BitVec.ofNat 32 (pick v).val) = 1#1
    rw [beq_false_of_ne this]
    decide

/-- The position picked in round `r`. -/
def sel (p : Fin 64 → EReal) (r : Nat) : Fin 64 := pick (state p r)

/-- The row before round `r`: minus one at the positions picked before, else the row. -/
theorem state_eq (p : Fin 64 → EReal) (r : Nat) (i : Fin 64) :
    ((∃ q, q < r ∧ sel p q = i) → state p r i = Ideal.ofBits .f32 0xBF800000#32) ∧
      ((∀ q, q < r → sel p q ≠ i) → state p r i = p i) := by
  induction r with
  | zero => exact ⟨fun ⟨q, hq, _⟩ => absurd hq (Nat.not_lt_zero _), fun _ => rfl⟩
  | succ r ih =>
    rw [state, masked_eq]
    constructor
    · rintro ⟨q, hq, hi⟩
      by_cases h : i = pick (state p r)
      · rw [if_pos h]
      · rw [if_neg h]
        refine ih.1 ⟨q, lt_of_le_of_ne (Nat.lt_succ_iff.mp hq) fun hc => h ?_, hi⟩
        rw [← hi, hc, sel]
    · intro hn
      rw [if_neg fun h => hn r (Nat.lt_succ_self r) (by rw [sel, h])]
      exact ih.2 fun q hq => hn q (hq.trans (Nat.lt_succ_self r))

/-- Some position is unpicked before round `r < 64`. -/
theorem unpicked_exists (p : Fin 64 → EReal) {r : Nat} (hr : r < 64) : ∃ i, ∀ q, q < r → sel p q ≠ i := by
  classical
  by_contra hc
  push Not at hc
  have hsub : (Finset.univ : Finset (Fin 64)) ⊆ (Finset.range r).image (sel p) := fun i _ => by
    obtain ⟨q, hq, hi⟩ := hc i
    exact Finset.mem_image.mpr ⟨q, Finset.mem_range.mpr hq, hi⟩
  have := (Finset.card_le_card hsub).trans Finset.card_image_le
  simp at this
  omega

section
variable {p : Fin 64 → EReal} (hp : ∀ i, Ideal.ofBits .f32 0xBF800000#32 < p i)
include hp

/-- With every value above minus one, a round picks a position not picked before. -/
theorem sel_fresh {r : Nat} (hr : r < 64) : ∀ q, q < r → sel p q ≠ sel p r := by
  intro q hq hc
  obtain ⟨i, hi⟩ := unpicked_exists p hr
  have h1 := (state_eq p r i).2 hi
  have h2 := (state_eq p r (sel p r)).1 ⟨q, hq, hc⟩
  have h3 := (top_attained (state p r)).2 i
  rw [← pick_top, h1] at h3
  change p i ≤ state p r (sel p r) at h3
  rw [h2] at h3
  exact absurd (hp i) (not_lt.mpr h3)

/-- The greatest value of round `r` is the row's value at the picked position. -/
theorem top_state {r : Nat} (hr : r < 64) : top (state p r) = p (sel p r) := by
  rw [← pick_top]
  exact (state_eq p r (sel p r)).2 (sel_fresh hp hr)

omit hp in
/-- Equal sorted position lists give equal sorted positions. -/
theorem sortedFrom_congr {n : Nat} {R R' : Fin n → Fin n → Bool} (h : sortPositions n R = sortPositions n R') :
    sortedFrom R = sortedFrom R' := by
  funext k
  exact List.get_of_eq h _

/-- The strict order a stable descending sort follows: the greater value first, equal values by position. -/
def before (p : Fin 64 → EReal) (k k' : Fin 64) : Bool :=
  decide (p k' < p k) || (decide (p k = p k') && decide (k < k'))

/-- Nothing unpicked comes before a round's pick. -/
theorem not_before {r : Nat} (hr : r < 64) {q : Fin 64} (hq : ∀ s, s < r → sel p s ≠ q) :
    before p q (sel p r) = false := by
  have hs : state p r q = p q := (state_eq p r q).2 hq
  have ht := top_state hp hr
  have hle : p q ≤ p (sel p r) := by rw [← ht, ← hs]; exact (top_attained _).2 q
  have hlt : q < sel p r → p q < p (sel p r) := fun h => by rw [← ht, ← hs]; exact lt_pick _ h
  simp only [before, Bool.or_eq_false_iff, Bool.and_eq_false_iff, decide_eq_false_iff_not]
  refine ⟨not_lt.mpr hle, ?_⟩
  by_cases h : q < sel p r
  · exact Or.inl (hlt h).ne
  · exact Or.inr h

omit hp in
/-- Sorting by value alone, stably, is sorting by value then position. -/
theorem sortedFrom_before (p : Fin 64 → EReal) :
    sortedFrom (fun k k' : Fin 64 => decide (p k' < p k)) = sortedFrom (before p) := by
  have key : ∀ l : List (Fin 64), l.Pairwise (· < ·) →
      stableSort (fun k k' : Fin 64 => decide (p k' < p k)) l = stableSort (before p) l := by
    intro l hl
    induction l with
    | nil => rfl
    | cons a l ih =>
      rw [List.pairwise_cons] at hl
      rw [stableSort, stableSort, ih hl.2]
      refine insertBefore_congr _ _ a _ fun b hb => ?_
      have hb' : a < b := hl.1 b ((perm_stableSort _ l).mem_iff.mp hb)
      simp [before, hb'.not_gt]
  have hpos : sortPositions 64 (fun k k' : Fin 64 => decide (p k' < p k)) = sortPositions 64 (before p) :=
    key _ (List.pairwise_lt_finRange 64)
  exact sortedFrom_congr hpos

/-- The `j`-th position of the stable descending sort is the one picked in round `j`, for the first eight. -/
theorem sortedFrom_sel (j : Fin 8) :
    sortedFrom (fun k k' : Fin 64 => decide (p k' < p k)) (j.castLE (by decide)) = sel p j.val := by
  rw [sortedFrom_before]
  have hB : StrictTotalBefore (before p) :=
    StrictTotalBefore.of_key_then_position (fun a b : EReal => decide (b < a)) p (by simp)
      (fun a b c h1 h2 => by
        simp only [decide_eq_true_eq] at h1 h2 ⊢
        exact h2.trans h1)
      (fun a b => by
        simp only [decide_eq_true_eq]
        rcases lt_trichotomy a b with h | h | h
        · exact Or.inr (Or.inr h)
        · exact Or.inr (Or.inl h)
        · exact Or.inl h)
  refine hB.sortedFrom_eq_of_prefix (by decide) (fun j : Fin 8 => sel p j.val) ?_ ?_ ?_ j
  · intro a b hab
    rcases lt_trichotomy a b with h | h | h
    · exact absurd hab (sel_fresh hp (by omega) _ (Fin.lt_def.mp h))
    · exact h
    · exact absurd hab.symm (sel_fresh hp (by omega) _ (Fin.lt_def.mp h))
  · intro a b hab
    refine not_before hp (by omega) fun s hs => sel_fresh hp (by omega) s ?_
    exact hs.trans (Fin.lt_def.mp hab)
  · intro a q hq
    exact not_before hp (by omega) fun s hs => hq ⟨s, by omega⟩

end

/-- The eight greatest values of a row, each divided by their sum. -/
def share (p : Fin 64 → EReal) (j : Fin 8) : EReal :=
  Ideal.div (top (state p j.val)) (∑ k : Fin 8, top (state p k.val))

end Cert.Gate
-- ==== Proof.Reference.lean ====
module

public import proofs.«01_k».proof.Proof.Gen.ReferenceIdeal.Run
public import proofs.«01_k».proof.Proof.TopK
public import Idealize.ShloMosaic.Lib.Pointwise
public import Idealize.ShloMosaic.Lib.Pipeline.Value
public import Idealize.ShloMosaic.PureOps.Ideal.Laws

/-!
# The reference's results at an index

The reference's named stages read at one entry, as the row functions of `Rows`, and its top-8 as the rounds of `TopK`.
-/

@[expose] public section

noncomputable section

namespace Cert.Gate.Ref

open Cert.ReferenceIdeal Cert.ReferenceIdeal.Gen Cert.ReferenceIdeal.Value Idealize.ShloMosaic Idealize.SL.Sem

variable (V0 : Valuation τ sig (Elt Ideal))

/-- The first hidden row. -/
def hid (r : Fin 8192) : Fin 256 → EReal :=
  hidden (fun k => V0 (Proc.devRef .tc main_arg0) (ix2 r k)) (fun j k => V0 (Proc.devRef .tc main_arg1) (ix2 j k))
    (fun j => V0 (Proc.devRef .tc main_arg2) (ix1 j))

/-- The row after the residual block. -/
def res (r : Fin 8192) : Fin 256 → EReal :=
  residual normDiv (hid V0 r) (fun j => V0 (Proc.devRef .tc main_arg3) (ix1 j))
    (fun j => V0 (Proc.devRef .tc main_arg4) (ix1 j)) (fun j k => V0 (Proc.devRef .tc main_arg5) (ix2 j k))
    (fun j => V0 (Proc.devRef .tc main_arg6) (ix1 j))

/-- The row's logits. -/
def lgt (r : Fin 8192) : Fin 64 → EReal :=
  logits normDiv (res V0 r) (fun j => V0 (Proc.devRef .tc main_arg7) (ix1 j))
    (fun j => V0 (Proc.devRef .tc main_arg8) (ix1 j)) (fun j k => V0 (Proc.devRef .tc main_arg9) (ix2 j k))
    (fun j => V0 (Proc.devRef .tc main_arg10) (ix1 j)) (fun j k => V0 (Proc.devRef .tc main_arg11) (ix2 j k))
    (fun j => V0 (Proc.devRef .tc main_arg12) (ix1 j)) (V0 (Proc.devRef .tc main_arg13) (ix1 0))

/-- The row's expert probabilities. -/
def prob (r : Fin 8192) : Fin 64 → EReal := softmax (lgt V0 r)

/-- The reference's first hidden layer, at an entry. -/
theorem v5_at (r : Fin 8192) (j : Fin 256) : res_main_v5 V0 (ix2 r j) = hid V0 r j := by
  pointwise [res_main_v5]
  rfl

/-- The first layer's mean. -/
theorem v9_at (r : Fin 8192) : res_main_v9 V0 (ix2 r 0) = mean (hid V0 r) := by
  pointwise [res_main_v9]
  simp only [v5_at]
  rfl

/-- The first layer's deviations. -/
theorem v11_at (r : Fin 8192) (j : Fin 256) : res_main_v11 V0 (ix2 r j) = hid V0 r j - mean (hid V0 r) := by
  pointwise [res_main_v11]
  rw [v5_at, v9_at]

/-- The residual block, at an entry. -/
theorem v36_at (r : Fin 8192) (j : Fin 256) : res_main_v36 V0 (ix2 r j) = res V0 r j := by
  pointwise [res_main_v36]
  simp only [v5_at, v9_at, v11_at]
  rfl

/-- The residual row's mean. -/
theorem v40_at (r : Fin 8192) : res_main_v40 V0 (ix2 r 0) = mean (res V0 r) := by
  pointwise [res_main_v40]
  simp only [v36_at]
  rfl

/-- The residual row's deviations. -/
theorem v42_at (r : Fin 8192) (j : Fin 256) : res_main_v42 V0 (ix2 r j) = res V0 r j - mean (res V0 r) := by
  pointwise [res_main_v42]
  rw [v36_at, v40_at]

/-- The logits, at an entry. -/
theorem v75_at (r : Fin 8192) (j : Fin 64) : res_main_v75 V0 (ix2 r j) = lgt V0 r j := by
  pointwise [res_main_v75]
  simp only [v36_at, v40_at, v42_at]
  rfl

/-- The reference's maximum over a row's entries is the row's greatest value. -/
theorem fold_row (x : S8192x64.Idx → EReal) (r : Fin 8192)
    [DecidablePred fun i : S8192x64.Idx => reducesTo_S8192x64_S8192_d1.drop i = ix1 r] :
    Finset.fold max (Ideal.ofBits .f32 0xFF800000#32) x
        (Finset.univ.filter fun i => reducesTo_S8192x64_S8192_d1.drop i = ix1 r)
      = top fun j => x (ix2 r j) := by
  have hd : ∀ i : S8192x64.Idx, (reducesTo_S8192x64_S8192_d1.drop i 0 : Nat) = i 0 := fun i =>
    Shape.ReducesTo.drop_apply_val_of_eq _ i 0 0
  rw [top, neg_inf_val]
  apply le_antisymm
  · refine Finset.fold_max_le _ |>.mpr ⟨bot_le, fun i hi => ?_⟩
    have h0 : i 0 = r := by
      have := congrFun (Finset.mem_filter.mp hi).2 0
      exact Fin.ext ((hd i).symm.trans (congrArg Fin.val this))
    refine Finset.le_fold_max _ |>.mpr (Or.inr ⟨i 1, Finset.mem_univ _, le_of_eq ?_⟩)
    rw [← h0]
    exact congrArg x (eq_ix2 i)
  · refine Finset.fold_max_le _ |>.mpr ⟨bot_le, fun j _ => ?_⟩
    refine Finset.le_fold_max _ |>.mpr (Or.inr ⟨ix2 r j, Finset.mem_filter.mpr ⟨Finset.mem_univ _, ?_⟩, le_rfl⟩)
    funext b
    match b with
    | ⟨0, _⟩ => exact Fin.ext (hd (ix2 r j))

/-- The exponentials, at an entry. -/
theorem v82_at (r : Fin 8192) (j : Fin 64) :
    res_main_v82 V0 (ix2 r j) = Ideal.exp (lgt V0 r j - top (lgt V0 r)) := by
  pointwise [res_main_v82]
  rw [v75_at]
  refine (congrArg (fun t => Ideal.exp (lgt V0 r j - max (Ideal.ofBits .f32 0xFF800000#32) t))
    (fold_row (res_main_v75 V0) r)).trans ?_
  simp only [v75_at]
  rw [neg_inf_val, max_eq_right bot_le]

/-- The probabilities, at an entry. -/
theorem v86_at (r : Fin 8192) (j : Fin 64) : res_main_v86 V0 (ix2 r j) = prob V0 r j := by
  pointwise [res_main_v86]
  simp only [v82_at]
  rfl

/-! ## The eight greatest -/

/-- The order the reference sorts a row by. -/
theorem order_row (x : S8192x64.Idx → EReal) (r : Fin 8192) (k k' : Fin 64) :
    (FloatOps.cmpfTotal (F := Ideal) (φ := .f32) .gt (x (ix2 r k)) (x (ix2 r k')) == 1#1)
      = decide (x (ix2 r k') < x (ix2 r k)) := by
  rw [Ideal.cmpfTotal_def]
  change (BitVec.ofBool (decide (x (ix2 r k') < x (ix2 r k))) == 1#1) = _
  by_cases h : x (ix2 r k') < x (ix2 r k) <;> simp [h]

/-- Replacing the second coordinate. -/
theorem along_row (r : Fin 8192) (a : Fin 64) (k : Fin 64) :
    Shape.Idx.along (s := S8192x64) (ix2 r a) 1 k = ix2 r k := by
  funext b
  match b with
  | ⟨0, _⟩ => rfl
  | ⟨1, _⟩ => rfl

/-- The position a row's sort takes its `j`-th value from. -/
def from8 (x : S8192x64.Idx → EReal) (r : Fin 8192) (j : Fin 8) : Fin 64 :=
  sortedFrom (fun k k' : Fin 64 => decide (x (ix2 r k') < x (ix2 r k))) (j.castLE (by decide))

/-- The permutation the reference's sort applies at an entry is the row's. -/
theorem perm_row (x : S8192x64.Idx → EReal) (r : Fin 8192) (j : Fin 8) :
    Shape.Idx.along (s := S8192x64) (ix2 r (j.castLE (by decide) : Fin 64)) 1
      (sortedFrom (fun k k' : Fin 64 => FloatOps.cmpfTotal (F := Ideal) (φ := .f32) .gt
          (x (Shape.Idx.along (s := S8192x64) (ix2 r (j.castLE (by decide) : Fin 64)) 1 k))
          (x (Shape.Idx.along (s := S8192x64) (ix2 r (j.castLE (by decide) : Fin 64)) 1 k')) == 1#1)
        (j.castLE (by decide)))
      = ix2 r (from8 x r j) := by
  refine (along_row r _ _).trans (congrArg (fun a : Fin 64 => ix2 r a) ?_)
  refine congrArg (fun R : Fin 64 → Fin 64 → Bool => sortedFrom R (j.castLE (by decide)))
    (funext fun k => funext fun k' => ?_)
  exact (congrArg₂ (fun a b : S8192x64.Idx => FloatOps.cmpfTotal (F := Ideal) (φ := .f32) .gt (x a) (x b) == 1#1)
    (along_row r _ k) (along_row r _ k')).trans (order_row x r k k')

/-- The reference's `j`-th greatest value of a row stands at the sort's position. -/
theorem topK_val (x : S8192x64.Idx → EReal) (r : Fin 8192) (j : Fin 8) :
    (Host.topK S8192x8 1 (FloatOps.cmpfTotal (F := Ideal) (φ := .f32) .gt) x
      sliceFits_S8192x64_S8192x8).1 (ix2 r j) = x (ix2 r (from8 x r j)) := by
  simp only [Host.topK]
  rw [extractStridedSlice_apply _ _ _ _ (ix2 r (j.castLE (by decide))) (by
    intro a
    match a with
    | ⟨0, _⟩ => exact (Nat.zero_add _).symm
    | ⟨1, _⟩ => exact (Nat.zero_add _).symm)]
  unfold Host.sort2
  rw [dif_pos (by decide)]
  exact congrArg x (perm_row x r j)

/-- The reference's `j`-th index of a row is the sort's position. -/
theorem topK_idx (x : S8192x64.Idx → EReal) (r : Fin 8192) (j : Fin 8) :
    (Host.topK S8192x8 1 (FloatOps.cmpfTotal (F := Ideal) (φ := .f32) .gt) x
      sliceFits_S8192x64_S8192x8).2 (ix2 r j) = BitVec.ofNat 32 (from8 x r j).val := by
  simp only [Host.topK]
  rw [extractStridedSlice_apply _ _ _ _ (ix2 r (j.castLE (by decide))) (by
    intro a
    match a with
    | ⟨0, _⟩ => exact (Nat.zero_add _).symm
    | ⟨1, _⟩ => exact (Nat.zero_add _).symm)]
  unfold Host.sort2
  rw [dif_pos (by decide)]
  refine (congrArg (fun i : S8192x64.Idx => iotaInDim S8192x64 32 ⟨1, by decide⟩ i) (perm_row x r j)).trans ?_
  rfl

/-- The values result, at an entry: the value at the sort's position divided by the eight values' sum. -/
theorem v90_at (r : Fin 8192) (j : Fin 8) :
    (Host.divf (res_main_values V0) (broadcastInDim S8192x8 ![0, 1] bcast_S8192x1_S8192x8_0_1
        (broadcastInDim S8192x1 ![0] bcast_S8192_S8192x1_0 (Host.reduceAdd (res_main_values V0)
          (constant S_ .f32 0x00000000#32) reducesTo_S8192x8_S8192_d1 h_S_)))
        : S8192x8.Idx → EReal) (ix2 r j)
      = Ideal.div (prob V0 r (from8 (res_main_v86 V0) r j))
          (∑ k : Fin 8, prob V0 r (from8 (res_main_v86 V0) r k)) := by
  have h : ∀ j : Fin 8, res_main_values V0 (ix2 r j) = prob V0 r (from8 (res_main_v86 V0) r j) := fun j => by
    rw [← v86_at]
    exact topK_val (res_main_v86 V0) r j
  pointwise
  simp only [h]

section
variable (r : Fin 8192) (j : Fin 8) (hp : ∀ i, Ideal.ofBits .f32 0xBF800000#32 < prob V0 r i)
include hp

/-- With the probabilities above minus one, the sort's position is the one picked in round `j`. -/
theorem from8_eq : from8 (res_main_v86 V0) r j = sel (prob V0 r) j.val := by
  rw [from8]
  simp only [v86_at]
  exact sortedFrom_sel hp j

/-- The values result as the rounds' shares. -/
theorem values_at :
    (Host.divf (res_main_values V0) (broadcastInDim S8192x8 ![0, 1] bcast_S8192x1_S8192x8_0_1
        (broadcastInDim S8192x1 ![0] bcast_S8192_S8192x1_0 (Host.reduceAdd (res_main_values V0)
          (constant S_ .f32 0x00000000#32) reducesTo_S8192x8_S8192_d1 h_S_)))
        : S8192x8.Idx → EReal) (ix2 r j) = share (prob V0 r) j := by
  have h : ∀ j : Fin 8, prob V0 r (from8 (res_main_v86 V0) r j) = top (state (prob V0 r) j.val) := fun j => by
    rw [from8_eq V0 r j hp, top_state hp (by omega)]
  rw [v90_at, share]
  simp only [h]

/-- The indices result as the rounds' positions. -/
theorem indices_at : (Host.topK S8192x8 1 (FloatOps.cmpfTotal (F := Ideal) (φ := .f32) .gt) (res_main_v86 V0)
      sliceFits_S8192x64_S8192x8).2 (ix2 r j) = word (state (prob V0 r) j.val) := by
  rw [topK_idx, from8_eq V0 r j hp, word_eq]
  rfl

end

end Cert.Gate.Ref
-- ==== Proof.Payloads.lean ====
module

public import proofs.«01_k».proof.Proof.Gen.KernelIdeal.Skeleton
public import proofs.«01_k».proof.Proof.TopK
public import Idealize.ShloMosaic.Lib.Pointwise
public import Idealize.ShloMosaic.PureOps.Ideal.Laws

/-!
# The kernel's stored values at an index

Each value the kernel's body computes from its blocks, read at one entry, as the row functions of `Rows` and `TopK`.
-/

@[expose] public section

noncomputable section

namespace Cert.Gate

open Cert.KernelIdeal Cert.KernelIdeal.Gen Idealize.ShloMosaic

/-- The first hidden layer's block, at an entry. -/
theorem pay9_at (v0 : Vec Ideal S1024x4096 .f32) (v1 : Vec Ideal S256x4096 .f32) (v3 : Vec Ideal S1x256 .f32)
    (r : Fin 1024) (j : Fin 256) :
    k0_pay9 v0 v1 v3 (ix2 r j)
      = hidden (fun k => v0 (ix2 r k)) (fun j k => v1 (ix2 j k)) (fun j => v3 (ix2 0 j)) j := by
  pointwise [k0_pay9]
  rfl

/-- The first normalised, scaled and rectified block, at an entry. -/
theorem pay10_at (v0 : Vec Ideal S1024x4096 .f32) (v1 : Vec Ideal S256x4096 .f32) (v3 v4 v5 : Vec Ideal S1x256 .f32)
    (r : Fin 1024) (j : Fin 256) :
    k0_pay10 v0 v1 v3 v4 v5 (ix2 r j)
      = act normMul (fun j => k0_pay9 v0 v1 v3 (ix2 r j)) (fun j => v4 (ix2 0 j)) (fun j => v5 (ix2 0 j)) j := by
  pointwise [k0_pay10]
  rfl

/-- The residual block, its normalisation and the hidden projection, at an entry. -/
theorem pay11_at (v8 v36 : FVec Ideal S1024x256 .f32) (v37 : Vec Ideal S256x256 .f32)
    (cst_18 : FVec Ideal S1024x256 .f32) (v39 v62 v66 : Vec Ideal S1x256 .f32) (v72 : Vec Ideal S128x256 .f32)
    (v74 : Vec Ideal S1x128 .f32) (r : Fin 1024) (j : Fin 128) (hz : ∀ k, cst_18 (ix2 r k) = 0) :
    k0_pay11 v8 v36 v37 cst_18 v39 v62 v66 v72 v74 (ix2 r j)
      = linear (act normMul (fun j => linear (fun k => v36 (ix2 r k)) (fun j k => v37 (ix2 j k))
            (fun j => v39 (ix2 0 j)) j + v8 (ix2 r j)) (fun j => v62 (ix2 0 j)) (fun j => v66 (ix2 0 j)))
          (fun j k => v72 (ix2 j k)) (fun j => v74 (ix2 0 j)) j := by
  pointwise [k0_pay11]
  simp only [hz, zero_add]
  rfl

/-- The probabilities' block, at an entry. -/
theorem pay12_at (v77 : FVec Ideal S1024x128 .f32) (v78 : Vec Ideal S64x128 .f32) (v80 : Vec Ideal S1x64 .f32)
    (v84 : Vec Ideal S1x1 .f32) (r : Fin 1024) (j : Fin 64) :
    k0_pay12 v77 v78 v80 v84 (ix2 r j)
      = softmax (fun j => Ideal.div (linear (fun k => v77 (ix2 r k)) (fun j k => v78 (ix2 j k))
          (fun j => v80 (ix2 0 j)) j) (temper (v84 (ix2 0 0)))) j := by
  pointwise [k0_pay12]
  rfl

section First
variable (v77 : FVec Ideal S1024x128 .f32) (v78 : Vec Ideal S64x128 .f32) (v80 : Vec Ideal S1x64 .f32)
  (v84 : Vec Ideal S1x1 .f32) (r : Fin 1024) {p : Fin 64 → EReal}
  (hp : ∀ i, k0_pay12 v77 v78 v80 v84 (ix2 r i) = p i)
include hp

/-- The transposed probabilities: a token's row stands in a column. -/
theorem pay13_at (i : Fin 64) : k0_pay13 v77 v78 v80 v84 (ix2 i r) = state p 0 i := by
  pointwise [k0_pay13]
  exact hp i

/-- The first round's greatest value. -/
theorem pay14_at : k0_pay14 v77 v78 v80 v84 (ix2 0 r) = top (state p 0) := by
  have h := pay13_at v77 v78 v80 v84 r hp
  pointwise [k0_pay14]
  simp only [h]
  rfl

/-- The first round's position. -/
theorem pay15_at : k0_pay15 v77 v78 v80 v84 (ix2 0 r) = word (state p 0) := by
  have h := pay13_at v77 v78 v80 v84 r hp
  have h' := pay14_at v77 v78 v80 v84 r hp
  pointwise [k0_pay15]
  simp only [h, h']
  rfl

/-- The column after the first round. -/
theorem pay16_at (i : Fin 64) : k0_pay16 v77 v78 v80 v84 (ix2 i r) = state p 1 i := by
  have h := pay13_at v77 v78 v80 v84 r hp
  have h' := pay15_at v77 v78 v80 v84 r hp
  pointwise [k0_pay16]
  simp only [h, h']
  rfl

/-- The second round's greatest value. -/
theorem pay17_at : k0_pay17 v77 v78 v80 v84 (ix2 0 r) = top (state p 1) := by
  have h := pay16_at v77 v78 v80 v84 r hp
  pointwise [k0_pay17]
  simp only [h]
  rfl

/-- The second round's candidates: a position's word where the greatest value stands, else 64. -/
theorem pay18_at (i : Fin 64) : k0_pay18 v77 v78 v80 v84 (ix2 i r)
    = if top (state p 1) ≤ state p 1 i then BitVec.ofNat 32 i.val else 64#32 := by
  have h := pay16_at v77 v78 v80 v84 r hp
  have h' := pay17_at v77 v78 v80 v84 r hp
  pointwise [k0_pay18]
  simp only [h, h']

end First

section Middle
variable (v101 : IVec S64x1024 32) (v113 : FVec Ideal S64x1024 .f32) (v119 : IVec S64x1024 32) (r : Fin 1024)
  {p : Fin 64 → EReal} (h101 : ∀ i : Fin 64, v101 (ix2 i r) = BitVec.ofNat 32 i.val)
  (h113 : ∀ i, v113 (ix2 i r) = state p 1 i)
  (h119 : ∀ i : Fin 64, v119 (ix2 i r) = if top (state p 1) ≤ state p 1 i then BitVec.ofNat 32 i.val else 64#32)

include h119 in
/-- The second round's position. -/
theorem pay19_at : k0_pay19 v119 (ix2 0 r) = word (state p 1) := by
  pointwise [k0_pay19]
  simp only [h119]
  rfl

include h101 h113 h119

/-- The column after the second round. -/
theorem pay20_at (i : Fin 64) : k0_pay20 v101 v113 v119 (ix2 i r) = state p 2 i := by
  have h := pay19_at v119 r h119
  pointwise [k0_pay20]
  simp only [h, h101, h113]
  rfl

/-- The third round's greatest value. -/
theorem pay21_at : k0_pay21 v101 v113 v119 (ix2 0 r) = top (state p 2) := by
  have h := pay20_at v101 v113 v119 r h101 h113 h119
  pointwise [k0_pay21]
  simp only [h]
  rfl

/-- The third round's position. -/
theorem pay22_at : k0_pay22 v101 v113 v119 (ix2 0 r) = word (state p 2) := by
  have h := pay20_at v101 v113 v119 r h101 h113 h119
  have h' := pay21_at v101 v113 v119 r h101 h113 h119
  pointwise [k0_pay22]
  simp only [h, h', h101]
  rfl

/-- The column after the third round. -/
theorem pay23_at (i : Fin 64) : k0_pay23 v101 v113 v119 (ix2 i r) = state p 3 i := by
  have h := pay20_at v101 v113 v119 r h101 h113 h119
  have h' := pay22_at v101 v113 v119 r h101 h113 h119
  pointwise [k0_pay23]
  simp only [h, h', h101]
  rfl

/-- The fourth round's greatest value. -/
theorem pay24_at : k0_pay24 v101 v113 v119 (ix2 0 r) = top (state p 3) := by
  have h := pay23_at v101 v113 v119 r h101 h113 h119
  pointwise [k0_pay24]
  simp only [h]
  rfl

/-- The fourth round's position. -/
theorem pay25_at : k0_pay25 v101 v113 v119 (ix2 0 r) = word (state p 3) := by
  have h := pay23_at v101 v113 v119 r h101 h113 h119
  have h' := pay24_at v101 v113 v119 r h101 h113 h119
  pointwise [k0_pay25]
  simp only [h, h', h101]
  rfl

/-- The column after the fourth round. -/
theorem pay26_at (i : Fin 64) : k0_pay26 v101 v113 v119 (ix2 i r) = state p 4 i := by
  have h := pay23_at v101 v113 v119 r h101 h113 h119
  have h' := pay25_at v101 v113 v119 r h101 h113 h119
  pointwise [k0_pay26]
  simp only [h, h', h101]
  rfl

/-- The fifth round's greatest value. -/
theorem pay27_at : k0_pay27 v101 v113 v119 (ix2 0 r) = top (state p 4) := by
  have h := pay26_at v101 v113 v119 r h101 h113 h119
  pointwise [k0_pay27]
  simp only [h]
  rfl

/-- The fifth round's position. -/
theorem pay28_at : k0_pay28 v101 v113 v119 (ix2 0 r) = word (state p 4) := by
  have h := pay26_at v101 v113 v119 r h101 h113 h119
  have h' := pay27_at v101 v113 v119 r h101 h113 h119
  pointwise [k0_pay28]
  simp only [h, h', h101]
  rfl

/-- The column after the fifth round. -/
theorem pay29_at (i : Fin 64) : k0_pay29 v101 v113 v119 (ix2 i r) = state p 5 i := by
  have h := pay26_at v101 v113 v119 r h101 h113 h119
  have h' := pay28_at v101 v113 v119 r h101 h113 h119
  pointwise [k0_pay29]
  simp only [h, h', h101]
  rfl

/-- The sixth round's greatest value. -/
theorem pay30_at : k0_pay30 v101 v113 v119 (ix2 0 r) = top (state p 5) := by
  have h := pay29_at v101 v113 v119 r h101 h113 h119
  pointwise [k0_pay30]
  simp only [h]
  rfl

/-- The sixth round's test: where the greatest value stands. -/
theorem pay31_at (i : Fin 64) : k0_pay31 v101 v113 v119 (ix2 i r)
    = BitVec.ofBool (decide (top (state p 5) ≤ state p 5 i)) := by
  have h := pay29_at v101 v113 v119 r h101 h113 h119
  have h' := pay30_at v101 v113 v119 r h101 h113 h119
  pointwise [k0_pay31]
  simp only [h, h']

end Middle

/-- Choosing by a decided test is the test. -/
theorem select_decide (c : Prop) [Decidable c] (a b : BitVec 32) :
    Scalar.select (BitVec.ofBool (decide c)) a b = if c then a else b := by
  rw [Scalar.select]
  by_cases h : c <;> simp [h]

section Last
variable (v101 : IVec S64x1024 32) (v161 : FVec Ideal S64x1024 .f32) (v165 : IVec S64x1024 1) (r : Fin 1024)
  {p : Fin 64 → EReal} (h101 : ∀ i : Fin 64, v101 (ix2 i r) = BitVec.ofNat 32 i.val)
  (h161 : ∀ i, v161 (ix2 i r) = state p 5 i)
  (h165 : ∀ i : Fin 64, v165 (ix2 i r) = BitVec.ofBool (decide (top (state p 5) ≤ state p 5 i)))

include h101 h165 in
/-- The sixth round's position. -/
theorem pay1_at : k0_pay1 v101 v165 (ix2 0 r) = word (state p 5) := by
  pointwise [k0_pay1]
  simp only [h165, h101, select_decide]
  rfl

include h101 h161 h165

/-- The column after the sixth round. -/
theorem pay2_at (i : Fin 64) : k0_pay2 v101 v161 v165 (ix2 i r) = state p 6 i := by
  have h := pay1_at v101 v165 r h101 h165
  pointwise [k0_pay2]
  simp only [h, h101, h161]
  rfl

/-- The seventh round's greatest value. -/
theorem pay3_at : k0_pay3 v101 v161 v165 (ix2 0 r) = top (state p 6) := by
  have h := pay2_at v101 v161 v165 r h101 h161 h165
  pointwise [k0_pay3]
  simp only [h]
  rfl

/-- The seventh round's position. -/
theorem pay4_at : k0_pay4 v101 v161 v165 (ix2 0 r) = word (state p 6) := by
  have h := pay2_at v101 v161 v165 r h101 h161 h165
  have h' := pay3_at v101 v161 v165 r h101 h161 h165
  pointwise [k0_pay4]
  simp only [h, h', h101]
  rfl

/-- The column after the seventh round. -/
theorem pay5_at (i : Fin 64) : k0_pay5 v101 v161 v165 (ix2 i r) = state p 7 i := by
  have h := pay2_at v101 v161 v165 r h101 h161 h165
  have h' := pay4_at v101 v161 v165 r h101 h161 h165
  pointwise [k0_pay5]
  simp only [h, h', h101]
  rfl

/-- The eighth round's greatest value. -/
theorem pay6_at : k0_pay6 v101 v161 v165 (ix2 0 r) = top (state p 7) := by
  have h := pay5_at v101 v161 v165 r h101 h161 h165
  pointwise [k0_pay6]
  simp only [h]
  rfl

/-- The stored values: the eight greatest values divided by their sum. -/
theorem pay7_at (v103 v115 v127 v139 v151 v163 : FVec Ideal S1x1024 .f32)
    (h103 : v103 (ix2 0 r) = top (state p 0)) (h115 : v115 (ix2 0 r) = top (state p 1))
    (h127 : v127 (ix2 0 r) = top (state p 2)) (h139 : v139 (ix2 0 r) = top (state p 3))
    (h151 : v151 (ix2 0 r) = top (state p 4)) (h163 : v163 (ix2 0 r) = top (state p 5)) (j : Fin 8) :
    k0_pay7 v101 v103 v115 v127 v139 v151 v161 v163 v165 (ix2 r j) = share p j := by
  have h3 := pay3_at v101 v161 v165 r h101 h161 h165
  have h6 := pay6_at v101 v161 v165 r h101 h161 h165
  pointwise [k0_pay7]
  rw [share]
  refine congrArg₂ Ideal.div ?_ (Finset.sum_congr rfl fun x _ => ?_)
  · fin_vals j with hk
    all_goals simp only [hk, Nat.reduceSub, Nat.reduceLT, ↓reduceDIte]
    · exact h103
    · exact h115
    · exact h127
    · exact h139
    · exact h151
    · exact h163
    · exact h3
    · exact h6
  · fin_vals x with hk
    all_goals simp only [hk, Nat.reduceSub, Nat.reduceLT, ↓reduceDIte]
    · exact h103
    · exact h115
    · exact h127
    · exact h139
    · exact h151
    · exact h163
    · exact h3
    · exact h6

/-- The stored positions of the eight rounds. -/
theorem pay8_at (v109 v121 v133 v145 v157 : IVec S1x1024 32)
    (h109 : v109 (ix2 0 r) = word (state p 0)) (h121 : v121 (ix2 0 r) = word (state p 1))
    (h133 : v133 (ix2 0 r) = word (state p 2)) (h145 : v145 (ix2 0 r) = word (state p 3))
    (h157 : v157 (ix2 0 r) = word (state p 4)) (j : Fin 8) :
    k0_pay8 v101 v109 v121 v133 v145 v157 v161 v165 (ix2 r j) = word (state p j.val) := by
  have h1 := pay1_at v101 v165 r h101 h165
  have h4 := pay4_at v101 v161 v165 r h101 h161 h165
  have h5 := pay5_at v101 v161 v165 r h101 h161 h165
  have h6 := pay6_at v101 v161 v165 r h101 h161 h165
  pointwise [k0_pay8]
  fin_vals j with hk
  all_goals simp only [hk, Nat.reduceSub, Nat.reduceLT, ↓reduceDIte, h5, h6, h101]
  · exact h109
  · exact h121
  · exact h133
  · exact h145
  · exact h157
  · exact h1
  · exact h4
  · rfl

end Last

end Cert.Gate
-- ==== Proof.Arrays.lean ====
module

public import proofs.«01_k».proof.Proof.Gen.KernelIdeal.Value
public import proofs.«01_k».proof.Proof.Payloads
public import Idealize.ShloMosaic.Lib.Pipeline.ValueKit
public import Idealize.ShloMosaic.Lib.Claim

/-!
# The kernel's three result arrays

What the body leaves in each output block, entry by entry, as the row functions of `Rows` and `TopK`; the input blocks
as the arguments' rows; and so each result array after the run, as one function of the arguments.
-/

@[expose] public section

noncomputable section

namespace Cert.Gate.Ker

open Cert.KernelIdeal Cert.KernelIdeal.Gen Idealize.ShloMosaic Idealize.ShloMosaic.TcCoe Idealize.SL.Sem

/-- The zero offsets of a whole-block rectangle. -/
theorem zero2 : (![0, 0] : Fin 2 → Nat) = fun _ => 0 := by
  funext a
  match a with
  | ⟨0, _⟩ => rfl
  | ⟨1, _⟩ => rfl

/-- A load of the whole [1024, 4096] block is the block. -/
theorem ld0 (x : Vec Ideal S1024x4096 .f32) : View.ld x r0_0 = x := View.ld_unit_zero zero2 _ x

/-- A load of the whole [256, 4096] block is the block. -/
theorem ld1 (x : Vec Ideal S256x4096 .f32) : View.ld x r0_1 = x := View.ld_unit_zero zero2 _ x

/-- A load of the whole [1, 256] block is the block. -/
theorem ld2 (x : Vec Ideal S1x256 .f32) : View.ld x r0_2 = x := View.ld_unit_zero zero2 _ x

/-- A load of the whole [256, 256] block is the block. -/
theorem ld3 (x : Vec Ideal S256x256 .f32) : View.ld x r0_3 = x := View.ld_unit_zero zero2 _ x

/-- A load of the whole [128, 256] block is the block. -/
theorem ld4 (x : Vec Ideal S128x256 .f32) : View.ld x r0_4 = x := View.ld_unit_zero zero2 _ x

/-- A load of the whole [1, 128] block is the block. -/
theorem ld5 (x : Vec Ideal S1x128 .f32) : View.ld x r0_5 = x := View.ld_unit_zero zero2 _ x

/-- A load of the whole [64, 128] block is the block. -/
theorem ld6 (x : Vec Ideal S64x128 .f32) : View.ld x r0_6 = x := View.ld_unit_zero zero2 _ x

/-- A load of the whole [1, 64] block is the block. -/
theorem ld7 (x : Vec Ideal S1x64 .f32) : View.ld x r0_7 = x := View.ld_unit_zero zero2 _ x

/-- A load of the whole [1, 1] block is the block. -/
theorem ld8 (x : Vec Ideal S1x1 .f32) : View.ld x r0_8 = x := View.ld_unit_zero zero2 _ x

section Block
variable (x0 : Vec Ideal S1024x4096 .f32) (x1 : Vec Ideal S256x4096 .f32) (x2 x3 x4 : Vec Ideal S1x256 .f32)
  (x5 : Vec Ideal S256x256 .f32) (x6 x7 x8 : Vec Ideal S1x256 .f32) (x9 : Vec Ideal S128x256 .f32)
  (x10 : Vec Ideal S1x128 .f32) (x11 : Vec Ideal S64x128 .f32) (x12 : Vec Ideal S1x64 .f32) (x13 : Vec Ideal S1x1 .f32)
  (r : Fin 1024)

/-- The residual row of a block's row `r`. -/
def bres : Fin 256 → EReal :=
  residual normMul (hidden (fun k => x0 (ix2 r k)) (fun j k => x1 (ix2 j k)) (fun j => x2 (ix2 0 j)))
    (fun j => x3 (ix2 0 j)) (fun j => x4 (ix2 0 j)) (fun j k => x5 (ix2 j k)) (fun j => x6 (ix2 0 j))

/-- The expert probabilities of a block's row `r`. -/
def bprob : Fin 64 → EReal :=
  softmax (logits normMul (bres x0 x1 x2 x3 x4 x5 x6 r) (fun j => x7 (ix2 0 j)) (fun j => x8 (ix2 0 j))
    (fun j k => x9 (ix2 j k)) (fun j => x10 (ix2 0 j)) (fun j k => x11 (ix2 j k)) (fun j => x12 (ix2 0 j))
    (x13 (ix2 0 0)))

/-- The projected hidden row, at an entry. -/
theorem pay32_at (j : Fin 128) : k0_pay32 x0 x1 x2 x3 x4 x5 x6 x7 x8 x9 x10 x11 x12 x13 (ix2 r j)
    = linear (act normMul (bres x0 x1 x2 x3 x4 x5 x6 r) (fun j => x7 (ix2 0 j)) (fun j => x8 (ix2 0 j)))
        (fun j k => x9 (ix2 j k)) (fun j => x10 (ix2 0 j)) j := by
  rw [k0_pay32, ld0, ld1, ld2, ld2, ld2, ld3, ld2, ld2, ld2, ld4, ld5, pay11_at]
  · simp only [pay10_at, pay9_at]
    rfl
  · intro k
    exact Ideal.ofBits_zero_f32

/-- The probabilities, at an entry. -/
theorem prob_at (i : Fin 64) : k0_pay12 (k0_pay32 x0 x1 x2 x3 x4 x5 x6 x7 x8 x9 x10 x11 x12 x13) x11 x12 x13 (ix2 r i)
    = bprob x0 x1 x2 x3 x4 x5 x6 x7 x8 x9 x10 x11 x12 x13 r i := by
  rw [pay12_at]
  simp only [pay32_at]
  rfl

/-- The position words. -/
theorem pay33_at (i : Fin 64) : k0_pay33 x0 x1 x2 x3 x4 x5 x6 x7 x8 x9 x10 x11 x12 x13 (ix2 i r) = BitVec.ofNat 32 i.val := by
  pointwise [k0_pay33]

/-- The column after the first round. -/
theorem pay34_at (i : Fin 64) : k0_pay34 x0 x1 x2 x3 x4 x5 x6 x7 x8 x9 x10 x11 x12 x13 (ix2 i r) = state (bprob x0 x1 x2 x3 x4 x5 x6 x7 x8 x9 x10 x11 x12 x13 r) 1 i := by
  rw [k0_pay34, ld6, ld7, ld8]
  exact pay16_at _ x11 x12 x13 r (prob_at x0 x1 x2 x3 x4 x5 x6 x7 x8 x9 x10 x11 x12 x13 r) i

/-- The second round's candidates. -/
theorem pay35_at (i : Fin 64) : k0_pay35 x0 x1 x2 x3 x4 x5 x6 x7 x8 x9 x10 x11 x12 x13 (ix2 i r)
    = if top (state (bprob x0 x1 x2 x3 x4 x5 x6 x7 x8 x9 x10 x11 x12 x13 r) 1) ≤ state (bprob x0 x1 x2 x3 x4 x5 x6 x7 x8 x9 x10 x11 x12 x13 r) 1 i
      then BitVec.ofNat 32 i.val else 64#32 := by
  rw [k0_pay35, ld6, ld7, ld8]
  exact pay18_at _ x11 x12 x13 r (prob_at x0 x1 x2 x3 x4 x5 x6 x7 x8 x9 x10 x11 x12 x13 r) i

/-- The column after the fifth round. -/
theorem pay36_at (i : Fin 64) : k0_pay36 x0 x1 x2 x3 x4 x5 x6 x7 x8 x9 x10 x11 x12 x13 (ix2 i r) = state (bprob x0 x1 x2 x3 x4 x5 x6 x7 x8 x9 x10 x11 x12 x13 r) 5 i :=
  pay29_at _ _ _ r (pay33_at x0 x1 x2 x3 x4 x5 x6 x7 x8 x9 x10 x11 x12 x13 r) (pay34_at x0 x1 x2 x3 x4 x5 x6 x7 x8 x9 x10 x11 x12 x13 r)
    (pay35_at x0 x1 x2 x3 x4 x5 x6 x7 x8 x9 x10 x11 x12 x13 r) i

/-- The sixth round's test. -/
theorem pay37_at (i : Fin 64) : k0_pay37 x0 x1 x2 x3 x4 x5 x6 x7 x8 x9 x10 x11 x12 x13 (ix2 i r)
    = BitVec.ofBool (decide (top (state (bprob x0 x1 x2 x3 x4 x5 x6 x7 x8 x9 x10 x11 x12 x13 r) 5)
        ≤ state (bprob x0 x1 x2 x3 x4 x5 x6 x7 x8 x9 x10 x11 x12 x13 r) 5 i)) :=
  pay31_at _ _ _ r (pay33_at x0 x1 x2 x3 x4 x5 x6 x7 x8 x9 x10 x11 x12 x13 r) (pay34_at x0 x1 x2 x3 x4 x5 x6 x7 x8 x9 x10 x11 x12 x13 r)
    (pay35_at x0 x1 x2 x3 x4 x5 x6 x7 x8 x9 x10 x11 x12 x13 r) i

/-- The values block after the body: each row's shares. -/
theorem out14_at (j : Fin 8) : out0_14 x0 x1 x2 x3 x4 x5 x6 x7 x8 x9 x10 x11 x12 x13 (ix2 r j)
    = share (bprob x0 x1 x2 x3 x4 x5 x6 x7 x8 x9 x10 x11 x12 x13 r) j := by
  have h1 := pay33_at x0 x1 x2 x3 x4 x5 x6 x7 x8 x9 x10 x11 x12 x13 r
  have h2 := pay34_at x0 x1 x2 x3 x4 x5 x6 x7 x8 x9 x10 x11 x12 x13 r
  have h3 := pay35_at x0 x1 x2 x3 x4 x5 x6 x7 x8 x9 x10 x11 x12 x13 r
  have hp := prob_at x0 x1 x2 x3 x4 x5 x6 x7 x8 x9 x10 x11 x12 x13 r
  rw [out0_14, View.canon_unit_zero zero2, ld6, ld7, ld8]
  exact pay7_at _ _ _ r h1 (pay36_at x0 x1 x2 x3 x4 x5 x6 x7 x8 x9 x10 x11 x12 x13 r) (pay37_at x0 x1 x2 x3 x4 x5 x6 x7 x8 x9 x10 x11 x12 x13 r)
    _ _ _ _ _ _ (pay14_at _ x11 x12 x13 r hp) (pay17_at _ x11 x12 x13 r hp) (pay21_at _ _ _ r h1 h2 h3)
    (pay24_at _ _ _ r h1 h2 h3) (pay27_at _ _ _ r h1 h2 h3) (pay30_at _ _ _ r h1 h2 h3) j

/-- The indices block after the body: each row's picked positions. -/
theorem out15_at (j : Fin 8) : out0_15 x0 x1 x2 x3 x4 x5 x6 x7 x8 x9 x10 x11 x12 x13 (ix2 r j)
    = word (state (bprob x0 x1 x2 x3 x4 x5 x6 x7 x8 x9 x10 x11 x12 x13 r) j.val) := by
  have h1 := pay33_at x0 x1 x2 x3 x4 x5 x6 x7 x8 x9 x10 x11 x12 x13 r
  have h2 := pay34_at x0 x1 x2 x3 x4 x5 x6 x7 x8 x9 x10 x11 x12 x13 r
  have h3 := pay35_at x0 x1 x2 x3 x4 x5 x6 x7 x8 x9 x10 x11 x12 x13 r
  have hp := prob_at x0 x1 x2 x3 x4 x5 x6 x7 x8 x9 x10 x11 x12 x13 r
  rw [out0_15, View.canon_unit_zero zero2, ld6, ld7, ld8]
  exact pay8_at _ _ _ r h1 (pay36_at x0 x1 x2 x3 x4 x5 x6 x7 x8 x9 x10 x11 x12 x13 r) (pay37_at x0 x1 x2 x3 x4 x5 x6 x7 x8 x9 x10 x11 x12 x13 r)
    _ _ _ _ _ (pay15_at _ x11 x12 x13 r hp) (pay19_at _ r h3) (pay22_at _ _ _ r h1 h2 h3)
    (pay25_at _ _ _ r h1 h2 h3) (pay28_at _ _ _ r h1 h2 h3) j

/-- The probabilities block after the body. -/
theorem out16_at (j : Fin 64) : out0_16 x0 x1 x2 x3 x4 x5 x6 x7 x8 x9 x10 x11 x12 x13 (ix2 r j)
    = bprob x0 x1 x2 x3 x4 x5 x6 x7 x8 x9 x10 x11 x12 x13 r j := by
  rw [out0_16, View.canon_unit_zero zero2, ld6, ld7, ld8]
  exact prob_at x0 x1 x2 x3 x4 x5 x6 x7 x8 x9 x10 x11 x12 x13 r j

end Block

/-! ## The arrays -/

section Arrays
variable (m : (ℓ : Loc nD τ sig) → Buf (Elt Ideal) ℓ) (c : Dev nD)

/-- The token a block's row is. -/
def tok (t : Fin cfg0.N) (r : Fin 1024) : Fin 8192 :=
  ⟨t.val * 1024 + r.val, by have := t.isLt; have h : cfg0.N = 8 := rfl; omega⟩

/-- Where each window's block stands at a grid point: the token rows advance, the parameters stay. -/
theorem places : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![t.val, 0]
    ∧ win0_15.index t = ![t.val, 0]
    ∧ win0_16.index t = ![t.val, 0] := by
  decide +kernel

/-- Window 0's block reads its argument's token rows. -/
theorem blk0 (t : Fin cfg0.N) (r : Fin 1024) (k : Fin 4096) :
    iblk m c 0 t (ix2 r k) = m ((c.tc : Thread nD τ).loc main_arg0) (ix2 (tok t r) k) := by
  blk_ext! [iblk, V, places t, tok]

/-- Window 1's block reads its argument's weights. -/
theorem blk1 (t : Fin cfg0.N) (j : Fin 256) (k : Fin 4096) :
    iblk m c 1 t (ix2 j k) = m ((c.tc : Thread nD τ).loc main_arg1) (ix2 j k) := by
  blk_ext! [iblk, V, places t]

/-- Window 2's block reads its argument's vector. -/
theorem blk2 (t : Fin cfg0.N) (k : Fin 256) :
    iblk m c 2 t (ix2 0 k) = m ((c.tc : Thread nD τ).loc main_arg2) (ix1 k) := by
  blk_ext! [iblk, places t]

/-- Window 3's block reads its argument's vector. -/
theorem blk3 (t : Fin cfg0.N) (k : Fin 256) :
    iblk m c 3 t (ix2 0 k) = m ((c.tc : Thread nD τ).loc main_arg3) (ix1 k) := by
  blk_ext! [iblk, places t]

/-- Window 4's block reads its argument's vector. -/
theorem blk4 (t : Fin cfg0.N) (k : Fin 256) :
    iblk m c 4 t (ix2 0 k) = m ((c.tc : Thread nD τ).loc main_arg4) (ix1 k) := by
  blk_ext! [iblk, places t]

/-- Window 5's block reads its argument's weights. -/
theorem blk5 (t : Fin cfg0.N) (j : Fin 256) (k : Fin 256) :
    iblk m c 5 t (ix2 j k) = m ((c.tc : Thread nD τ).loc main_arg5) (ix2 j k) := by
  blk_ext! [iblk, V, places t]

/-- Window 6's block reads its argument's vector. -/
theorem blk6 (t : Fin cfg0.N) (k : Fin 256) :
    iblk m c 6 t (ix2 0 k) = m ((c.tc : Thread nD τ).loc main_arg6) (ix1 k) := by
  blk_ext! [iblk, places t]

/-- Window 7's block reads its argument's vector. -/
theorem blk7 (t : Fin cfg0.N) (k : Fin 256) :
    iblk m c 7 t (ix2 0 k) = m ((c.tc : Thread nD τ).loc main_arg7) (ix1 k) := by
  blk_ext! [iblk, places t]

/-- Window 8's block reads its argument's vector. -/
theorem blk8 (t : Fin cfg0.N) (k : Fin 256) :
    iblk m c 8 t (ix2 0 k) = m ((c.tc : Thread nD τ).loc main_arg8) (ix1 k) := by
  blk_ext! [iblk, places t]

/-- Window 9's block reads its argument's weights. -/
theorem blk9 (t : Fin cfg0.N) (j : Fin 128) (k : Fin 256) :
    iblk m c 9 t (ix2 j k) = m ((c.tc : Thread nD τ).loc main_arg9) (ix2 j k) := by
  blk_ext! [iblk, V, places t]

/-- Window 10's block reads its argument's vector. -/
theorem blk10 (t : Fin cfg0.N) (k : Fin 128) :
    iblk m c 10 t (ix2 0 k) = m ((c.tc : Thread nD τ).loc main_arg10) (ix1 k) := by
  blk_ext! [iblk, places t]

/-- Window 11's block reads its argument's weights. -/
theorem blk11 (t : Fin cfg0.N) (j : Fin 64) (k : Fin 128) :
    iblk m c 11 t (ix2 j k) = m ((c.tc : Thread nD τ).loc main_arg11) (ix2 j k) := by
  blk_ext! [iblk, V, places t]

/-- Window 12's block reads its argument's vector. -/
theorem blk12 (t : Fin cfg0.N) (k : Fin 64) :
    iblk m c 12 t (ix2 0 k) = m ((c.tc : Thread nD τ).loc main_arg12) (ix1 k) := by
  blk_ext! [iblk, places t]

/-- Window 13's block reads its argument's scalar. -/
theorem blk13 (t : Fin cfg0.N)  :
    iblk m c 13 t (ix2 0 0) = m ((c.tc : Thread nD τ).loc main_arg13) (ix1 0) := by
  blk_ext! [iblk, places t]

/-- A token's residual row. -/
def res (r : Fin 8192) : Fin 256 → EReal :=
  residual normMul (hidden (fun k => m ((c.tc : Thread nD τ).loc main_arg0) (ix2 r k))
      (fun j k => m ((c.tc : Thread nD τ).loc main_arg1) (ix2 j k)) (fun j => m ((c.tc : Thread nD τ).loc main_arg2) (ix1 j)))
    (fun j => m ((c.tc : Thread nD τ).loc main_arg3) (ix1 j)) (fun j => m ((c.tc : Thread nD τ).loc main_arg4) (ix1 j))
    (fun j k => m ((c.tc : Thread nD τ).loc main_arg5) (ix2 j k)) (fun j => m ((c.tc : Thread nD τ).loc main_arg6) (ix1 j))

/-- A token's expert probabilities. -/
def prob (r : Fin 8192) : Fin 64 → EReal :=
  softmax (logits normMul (res m c r) (fun j => m ((c.tc : Thread nD τ).loc main_arg7) (ix1 j))
    (fun j => m ((c.tc : Thread nD τ).loc main_arg8) (ix1 j)) (fun j k => m ((c.tc : Thread nD τ).loc main_arg9) (ix2 j k))
    (fun j => m ((c.tc : Thread nD τ).loc main_arg10) (ix1 j)) (fun j k => m ((c.tc : Thread nD τ).loc main_arg11) (ix2 j k))
    (fun j => m ((c.tc : Thread nD τ).loc main_arg12) (ix1 j)) (m ((c.tc : Thread nD τ).loc main_arg13) (ix1 0)))

/-- A block's row has its token's probabilities. -/
theorem bprob_eq (t : Fin cfg0.N) (r : Fin 1024) :
    bprob (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r = prob m c (tok t r) := by
  unfold bprob bres prob res
  simp only [blk0, blk1, blk2, blk3, blk4, blk5, blk6, blk7, blk8, blk9, blk10, blk11, blk12, blk13]

/-- The values, as one array of the arguments. -/
def values : S8192x8.Idx → EReal := fun i => share (prob m c (i 0)) (i 1)

/-- The values at an entry. -/
theorem values_at (r : Fin 8192) (j : Fin 8) : values m c (ix2 r j) = share (prob m c r) j := rfl

/-- The values array after the run. -/
theorem arr14 : (dats m 0 c).arrAt 14 cfg0.N = values m c := by
  refine (dats m 0 c).arrAt_eq_of_covers 14 _ (by decide +kernel) fun t hf y => ?_
  obtain ⟨r, j, rfl⟩ : ∃ (r : Fin 1024) (j : Fin 8), y = ix2 r j := ⟨y 0, y 1, eq_ix2 (n0 := 1024) (n1 := 8) y⟩
  have h0 : (((cfg0.win 14).blk t).view.emb (ix2 r j) : S8192x8.Idx) = ix2 (tok t r) j := by
    blk_ext [places t, tok]
  blk_simp
  rw [after0_14]
  refine (out14_at _ _ _ _ _ _ _ _ _ _ _ _ _ _ r j).trans ?_
  rw [bprob_eq]
  exact (values_at m c (tok t r) j).symm.trans (congrArg (values m c) h0.symm)

/-- The indices, as one array of the arguments. -/
def indices : S8192x8.Idx → BitVec 32 := fun i => word (state (prob m c (i 0)) (i 1).val)

/-- The indices at an entry. -/
theorem indices_at (r : Fin 8192) (j : Fin 8) : indices m c (ix2 r j) = word (state (prob m c r) j.val) := rfl

/-- The indices array after the run. -/
theorem arr15 : (dats m 0 c).arrAt 15 cfg0.N = indices m c := by
  refine (dats m 0 c).arrAt_eq_of_covers 15 _ (by decide +kernel) fun t hf y => ?_
  obtain ⟨r, j, rfl⟩ : ∃ (r : Fin 1024) (j : Fin 8), y = ix2 r j := ⟨y 0, y 1, eq_ix2 (n0 := 1024) (n1 := 8) y⟩
  have h0 : (((cfg0.win 15).blk t).view.emb (ix2 r j) : S8192x8.Idx) = ix2 (tok t r) j := by
    blk_ext [places t, tok]
  blk_simp
  rw [after0_15]
  refine (out15_at _ _ _ _ _ _ _ _ _ _ _ _ _ _ r j).trans ?_
  rw [bprob_eq]
  exact (indices_at m c (tok t r) j).symm.trans (congrArg (indices m c) h0.symm)

/-- The probabilities, as one array of the arguments. -/
def probabilities : S8192x64.Idx → EReal := fun i => prob m c (i 0) (i 1)

/-- The probabilities at an entry. -/
theorem probabilities_at (r : Fin 8192) (j : Fin 64) : probabilities m c (ix2 r j) = prob m c r j := rfl

/-- The probabilities array after the run. -/
theorem arr16 : (dats m 0 c).arrAt 16 cfg0.N = probabilities m c := by
  refine (dats m 0 c).arrAt_eq_of_covers 16 _ (by decide +kernel) fun t hf y => ?_
  obtain ⟨r, j, rfl⟩ : ∃ (r : Fin 1024) (j : Fin 64), y = ix2 r j := ⟨y 0, y 1, eq_ix2 (n0 := 1024) (n1 := 64) y⟩
  have h0 : (((cfg0.win 16).blk t).view.emb (ix2 r j) : S8192x64.Idx) = ix2 (tok t r) j := by
    blk_ext [places t, tok]
  blk_simp
  rw [after0_16]
  refine (out16_at _ _ _ _ _ _ _ _ _ _ _ _ _ _ r j).trans ?_
  rw [bprob_eq]
  exact (probabilities_at m c (tok t r) j).symm.trans (congrArg (probabilities m c) h0.symm)

end Arrays

end Cert.Gate.Ker
-- ==== Proof.Algebra.lean ====
module

public import proofs.«01_k».proof.Defs
public import proofs.«01_k».proof.Proof.Reference
public import proofs.«01_k».proof.Proof.Arrays
public import Idealize.ShloMosaic.Adequacy

/-!
# The kernel and the reference end with the same results

The row functions of the two programs agree: the reciprocal root is the quotient by the root. Under the precondition the
probabilities are positive, so the kernel's mark for a taken expert is below all of them and the rounds are the sort.
-/

@[expose] public section

noncomputable section

namespace Cert.Gate

open Idealize.ShloMosaic Idealize.SL.Sem Idealize.ShloMosaic.StableHlo

/-- The precondition's broadcasts are of a scalar. -/
instance pre_facts : Cert.Pre_gate_params_finite.Facts := ⟨by decide, by decide, by decide, by decide, by decide⟩

/-- The mask's broadcasts are of a scalar. -/
instance on_facts : Cert.On_gate_probs_only.Facts := ⟨by decide, by decide⟩

/-- A value whose absolute value is below plus infinity is real. -/
theorem real_of_test {x : EReal} (h : Ideal.cmp .olt (max x (-x)) (Ideal.ofBits .f32 0x7F800000#32) = 1#1) : IsReal x := by
  rw [pos_inf_val] at h
  have hlt : max x (-x) < ⊤ := by
    by_contra hn
    simp [Ideal.cmp, hn] at h
  refine IsReal.of_ne ?_ ?_
  · rintro rfl; simp at hlt
  · rintro rfl; simp at hlt

section Kernel

open Cert.KernelIdeal Cert.KernelIdeal.Gen

variable (m : (ℓ : Loc nD τ sig) → Buf (Elt Ideal) ℓ)

/-- Under the precondition every probability is positive, so it is above the mark. -/
theorem above_mark (hpre : Cert.Pre_KernelIdeal_gate_params_finite m) (c : Dev nD) (r : Fin 8192) (i : Fin 64) :
    Ideal.ofBits .f32 0xBF800000#32 < Ker.prob m c r i := by
  obtain ⟨h7, h8, h9, h10, h11, h12⟩ := hpre c
  have hp : 0 < Ker.prob m c r i := softmax_pos (logits_real _ _
    (fun j => real_of_test (congrFun h7 (ix1 j))) (fun j => real_of_test (congrFun h8 (ix1 j)))
    (fun j k => real_of_test (congrFun h9 (ix2 j k))) (fun j => real_of_test (congrFun h10 (ix1 j)))
    (fun j k => real_of_test (congrFun h11 (ix2 j k))) (fun j => real_of_test (congrFun h12 (ix1 j)))) i
  rw [minus_one_val]
  refine lt_trans ?_ hp
  exact_mod_cast (by norm_num : (-1 : ℝ) < 0)

/-- The kernel ends with the arrays of the row functions, and its arguments unchanged. -/
theorem kernel_run (g : Dev nD → PrngReg) :
    θ_run defs (onTc (τ := τ) (main (F := Ideal))) ⟨m, fun _ => 0, g⟩ (fun r => ∀ c : Dev nD,
      r.2.mem ((c.tc : Thread nD τ).loc main_v0_0) = Ker.values m c
      ∧ r.2.mem ((c.tc : Thread nD τ).loc main_v0_1) = Ker.indices m c
      ∧ r.2.mem ((c.tc : Thread nD τ).loc main_v0_2) = Ker.probabilities m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c).1.trans (Ker.arr14 m c), (h c).2.1.trans (Ker.arr15 m c), (h c).2.2.1.trans (Ker.arr16 m c), (h c).2.2.2⟩)
    (Cert.KernelIdeal.Value.run_blocks m g)

end Kernel

/-- The two programs' memories agree on the arguments. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

section Agreement

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

/-- From agreeing arguments the two programs give a token the same probabilities. -/
theorem prob_eq (h : Agree m m' c) (r : Fin 8192) : Ref.prob (launchContents m' c) r = Ker.prob m c r := by
  obtain ⟨h0, h1, h2, h3, h4, h5, h6, h7, h8, h9, h10, h11, h12, h13⟩ := h
  change launchContents m' c (Proc.devRef .tc Cert.ReferenceIdeal.main_arg0) = _ at h0
  change launchContents m' c (Proc.devRef .tc Cert.ReferenceIdeal.main_arg1) = _ at h1
  change launchContents m' c (Proc.devRef .tc Cert.ReferenceIdeal.main_arg2) = _ at h2
  change launchContents m' c (Proc.devRef .tc Cert.ReferenceIdeal.main_arg3) = _ at h3
  change launchContents m' c (Proc.devRef .tc Cert.ReferenceIdeal.main_arg4) = _ at h4
  change launchContents m' c (Proc.devRef .tc Cert.ReferenceIdeal.main_arg5) = _ at h5
  change launchContents m' c (Proc.devRef .tc Cert.ReferenceIdeal.main_arg6) = _ at h6
  change launchContents m' c (Proc.devRef .tc Cert.ReferenceIdeal.main_arg7) = _ at h7
  change launchContents m' c (Proc.devRef .tc Cert.ReferenceIdeal.main_arg8) = _ at h8
  change launchContents m' c (Proc.devRef .tc Cert.ReferenceIdeal.main_arg9) = _ at h9
  change launchContents m' c (Proc.devRef .tc Cert.ReferenceIdeal.main_arg10) = _ at h10
  change launchContents m' c (Proc.devRef .tc Cert.ReferenceIdeal.main_arg11) = _ at h11
  change launchContents m' c (Proc.devRef .tc Cert.ReferenceIdeal.main_arg12) = _ at h12
  change launchContents m' c (Proc.devRef .tc Cert.ReferenceIdeal.main_arg13) = _ at h13
  unfold Ref.prob Ref.lgt Ref.res Ref.hid Ker.prob Ker.res
  rw [← normMul_eq, h0, h1, h2, h3, h4, h5, h6, h7, h8, h9, h10, h11, h12, h13]

open Cert.ReferenceIdeal Cert.ReferenceIdeal.Gen Cert.ReferenceIdeal.Value in
/-- The reference's probabilities are the kernel's. -/
theorem probabilities_eq (h : Agree m m' c) : res_main_v86 (launchContents m' c) = Ker.probabilities m c := by
  funext i
  obtain ⟨r, j, rfl⟩ : ∃ (r : Fin 8192) (j : Fin 64), i = ix2 r j := ⟨i 0, i 1, eq_ix2 (n0 := 8192) (n1 := 64) i⟩
  rw [Ref.v86_at, Ker.probabilities_at, prob_eq h]

open Cert.ReferenceIdeal Cert.ReferenceIdeal.Gen Cert.ReferenceIdeal.Value in
/-- The reference's shares are the kernel's, where every probability is above the mark. -/
theorem values_eq (h : Agree m m' c) (hp : ∀ r i, Ideal.ofBits .f32 0xBF800000#32 < Ker.prob m c r i) :
    (Host.divf (res_main_values (launchContents m' c)) (broadcastInDim S8192x8 ![0, 1] bcast_S8192x1_S8192x8_0_1
        (broadcastInDim S8192x1 ![0] bcast_S8192_S8192x1_0 (Host.reduceAdd (res_main_values (launchContents m' c))
          (constant S_ .f32 0x00000000#32) reducesTo_S8192x8_S8192_d1 h_S_))) : S8192x8.Idx → EReal) = Ker.values m c := by
  funext i
  obtain ⟨r, j, rfl⟩ : ∃ (r : Fin 8192) (j : Fin 8), i = ix2 r j := ⟨i 0, i 1, eq_ix2 (n0 := 8192) (n1 := 8) i⟩
  rw [Ref.values_at _ r j (by rw [prob_eq h]; exact hp r), Ker.values_at, prob_eq h]

open Cert.ReferenceIdeal Cert.ReferenceIdeal.Gen Cert.ReferenceIdeal.Value in
/-- The reference's expert numbers are the kernel's, where every probability is above the mark. -/
theorem indices_eq (h : Agree m m' c) (hp : ∀ r i, Ideal.ofBits .f32 0xBF800000#32 < Ker.prob m c r i) :
    (Host.topK S8192x8 1 (FloatOps.cmpfTotal (F := Ideal) (φ := .f32) .gt) (res_main_v86 (launchContents m' c))
      sliceFits_S8192x64_S8192x8).2 = Ker.indices m c := by
  funext i
  obtain ⟨r, j, rfl⟩ : ∃ (r : Fin 8192) (j : Fin 8), i = ix2 r j := ⟨i 0, i 1, eq_ix2 (n0 := 8192) (n1 := 8) i⟩
  rw [Ref.indices_at _ r j (by rw [prob_eq h]; exact hp r), Ker.indices_at, prob_eq h]

end Agreement

/-- The kernel and the reference end with equal results, where the gate's parameters are finite. -/
theorem value_claim : Cert.algebraic_KernelIdeal_ReferenceIdeal_pre_gate_params_finite := by
  intro m g m' g' hpre hagree
  refine ⟨Ker.values m, Ker.indices m, Ker.probabilities m, kernel_run m g, ?_⟩
  refine (θ_run Cert.ReferenceIdeal.defs _ _).mono (fun _ h c => ?_) (Cert.ReferenceIdeal.Value.run m' g')
  exact ⟨(h c).1.trans (values_eq (hagree c) (above_mark m hpre c)),
    (h c).2.1.trans (indices_eq (hagree c) (above_mark m hpre c)),
    (h c).2.2.1.trans (probabilities_eq (hagree c)), (h c).2.2.2⟩

/-- The mask of a result that is left out is nowhere one. -/
theorem mask_out {α : Prop} (h : (0#1 : BitVec 1) = 1#1) : α := absurd h (by decide)

/-- The kernel and the reference end with equal probabilities, from any arguments. -/
theorem probability_claim : Cert.algebraic_KernelIdeal_ReferenceIdeal_on_gate_probs_only := by
  intro m g m' g' _ hagree
  refine ⟨Ker.values m, Ker.indices m, Ker.probabilities m, ?_, ?_⟩
  · refine (θ_run Cert.KernelIdeal.defs _ _).mono (fun _ h c => ?_) (kernel_run m g)
    exact ⟨fun i _ => congrFun (h c).1 i, fun i _ => congrFun (h c).2.1 i, fun i _ => congrFun (h c).2.2.1 i, (h c).2.2.2⟩
  · refine (θ_run Cert.ReferenceIdeal.defs _ _).mono (fun _ h c => ?_) (Cert.ReferenceIdeal.Value.run m' g')
    exact ⟨fun i hi => mask_out hi, fun i hi => mask_out hi,
      fun i _ => congrFun ((h c).2.2.1.trans (probabilities_eq (hagree c))) i, (h c).2.2.2⟩

/-- The reference ends with its arguments unchanged; it has no semaphore, so every counter is zero. -/
theorem reference_frame : Cert.quiescent_ReferenceIdeal := by
  intro m g _
  exact (θ_run Cert.ReferenceIdeal.defs _ _).mono
    (fun r h => ⟨fun c => (h c).2.2.2, sem_eq_zero_of_no_sems (by decide) r.2⟩) (Cert.ReferenceIdeal.Value.run m g)

end Cert.Gate

end
-- ==== Proof.lean ====
module

public import proofs.«01_k».proof.Defs
public import proofs.«01_k».proof.Proof.Algebra
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Gate.pre_facts, Cert.Gate.on_facts,
    fun m g _ => Cert.Kernel.Gen.frame m g, fun m g _ => Cert.KernelIdeal.Gen.frame m g,
    fun m g _ => Cert.KernelIdeal.Gen.frame m g, Cert.Gate.reference_frame,
    fun m g _ => Cert.Gate.reference_frame m g trivial, trivial, Cert.Gate.value_claim, Cert.Gate.probability_claim⟩

end Cert.Proof

end
